-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v50_4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x64 : Shape := ⟨3, ![16, 64, 64]⟩
abbrev S16x2x64x64 : Shape := ⟨4, ![16, 2, 64, 64]⟩
abbrev S65536 : Shape := ⟨1, ![65536]⟩
abbrev S_ : Shape := ⟨0, ![]⟩
abbrev S16x2x4096 : Shape := ⟨3, ![16, 2, 4096]⟩
abbrev S16x1x4096 : Shape := ⟨3, ![16, 1, 4096]⟩
abbrev S16x4096 : Shape := ⟨2, ![16, 4096]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S1x2048 : Shape := ⟨2, ![1, 2048]⟩
abbrev S2x2048 : Shape := ⟨2, ![2, 2048]⟩
abbrev S1x128 : Shape := ⟨2, ![1, 128]⟩
abbrev S1x1x128 : Shape := ⟨3, ![1, 1, 128]⟩
abbrev S1x1x1 : Shape := ⟨3, ![1, 1, 1]⟩
abbrev S128x1 : Shape := ⟨2, ![128, 1]⟩
abbrev S1x1920 : Shape := ⟨2, ![1, 1920]⟩
abbrev S128x1920 : Shape := ⟨2, ![128, 1920]⟩
abbrev S1920 : Shape := ⟨1, ![1920]⟩
abbrev S1x1792 : Shape := ⟨2, ![1, 1792]⟩
abbrev S128x1792 : Shape := ⟨2, ![128, 1792]⟩
abbrev S1792 : Shape := ⟨1, ![1792]⟩
abbrev S1x1664 : Shape := ⟨2, ![1, 1664]⟩
abbrev S128x1664 : Shape := ⟨2, ![128, 1664]⟩
abbrev S1664 : Shape := ⟨1, ![1664]⟩
abbrev S1x1536 : Shape := ⟨2, ![1, 1536]⟩
abbrev S128x1536 : Shape := ⟨2, ![128, 1536]⟩
abbrev S1536 : Shape := ⟨1, ![1536]⟩
abbrev S1x1408 : Shape := ⟨2, ![1, 1408]⟩
abbrev S128x1408 : Shape := ⟨2, ![128, 1408]⟩
abbrev S1408 : Shape := ⟨1, ![1408]⟩
abbrev S1x1280 : Shape := ⟨2, ![1, 1280]⟩
abbrev S128x1280 : Shape := ⟨2, ![128, 1280]⟩
abbrev S1280 : Shape := ⟨1, ![1280]⟩
abbrev S1x1152 : Shape := ⟨2, ![1, 1152]⟩
abbrev S128x1152 : Shape := ⟨2, ![128, 1152]⟩
abbrev S1152 : Shape := ⟨1, ![1152]⟩
abbrev S1x1024 : Shape := ⟨2, ![1, 1024]⟩
abbrev S128x1024 : Shape := ⟨2, ![128, 1024]⟩
abbrev S1024 : Shape := ⟨1, ![1024]⟩
abbrev S1x896 : Shape := ⟨2, ![1, 896]⟩
abbrev S128x896 : Shape := ⟨2, ![128, 896]⟩
abbrev S896 : Shape := ⟨1, ![896]⟩
abbrev S1x768 : Shape := ⟨2, ![1, 768]⟩
abbrev S128x768 : Shape := ⟨2, ![128, 768]⟩
abbrev S768 : Shape := ⟨1, ![768]⟩
abbrev S1x640 : Shape := ⟨2, ![1, 640]⟩
abbrev S128x640 : Shape := ⟨2, ![128, 640]⟩
abbrev S640 : Shape := ⟨1, ![640]⟩
abbrev S1x512 : Shape := ⟨2, ![1, 512]⟩
abbrev S128x512 : Shape := ⟨2, ![128, 512]⟩
abbrev S512 : Shape := ⟨1, ![512]⟩
abbrev S1x384 : Shape := ⟨2, ![1, 384]⟩
abbrev S128x384 : Shape := ⟨2, ![128, 384]⟩
abbrev S384 : Shape := ⟨1, ![384]⟩
abbrev S1x256 : Shape := ⟨2, ![1, 256]⟩
abbrev S128x256 : Shape := ⟨2, ![128, 256]⟩
abbrev S256 : Shape := ⟨1, ![256]⟩
abbrev S128x128 : Shape := ⟨2, ![128, 128]⟩
abbrev S128 : Shape := ⟨1, ![128]⟩
abbrev S2048x2 : Shape := ⟨2, ![2048, 2]⟩

abbrev nBuf : Space → Nat
  | .hbm => 94
  | .vmem => 7
  | .smem => 0
  | _ => 0

abbrev bufTy : (tb : Table) → Fin (tcTables nBuf tb) → BufTy
  | .hbm, ⟨0, _⟩ => ⟨S16x64x64, .f32⟩
  | .hbm, ⟨1, _⟩ => ⟨S16x2x64x64, .f32⟩
  | .hbm, ⟨2, _⟩ => ⟨S65536, .f32⟩
  | .hbm, ⟨3, _⟩ => ⟨S_, .f32⟩
  | .hbm, ⟨4, _⟩ => ⟨S65536, .f32⟩
  | .hbm, ⟨5, _⟩ => ⟨S65536, .i1⟩
  | .hbm, ⟨6, _⟩ => ⟨S_, .f32⟩
  | .hbm, ⟨7, _⟩ => ⟨S_, .f32⟩
  | .hbm, ⟨8, _⟩ => ⟨S65536, .f32⟩
  | .hbm, ⟨9, _⟩ => ⟨S65536, .f32⟩
  | .hbm, ⟨10, _⟩ => ⟨S16x2x4096, .f32⟩
  | .hbm, ⟨11, _⟩ => ⟨S16x1x4096, .f32⟩
  | .hbm, ⟨12, _⟩ => ⟨S16x4096, .f32⟩
  | .hbm, ⟨13, _⟩ => ⟨S65536, .f32⟩
  | .hbm, ⟨14, _⟩ => ⟨S16x1x4096, .f32⟩
  | .hbm, ⟨15, _⟩ => ⟨S16x4096, .f32⟩
  | .hbm, ⟨16, _⟩ => ⟨S65536, .f32⟩
  | .hbm, ⟨17, _⟩ => ⟨S2048, .f32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S1, .i32⟩
  | .hbm, ⟨28, _⟩ => ⟨S_, .i32⟩
  | .hbm, ⟨29, _⟩ => ⟨S2048x1, .i32⟩
  | .hbm, ⟨30, _⟩ => ⟨S2048x1, .i1⟩
  | .hbm, ⟨31, _⟩ => ⟨S1x1, .i32⟩
  | .hbm, ⟨32, _⟩ => ⟨S2048x1, .i32⟩
  | .hbm, ⟨33, _⟩ => ⟨S2048x1, .i1⟩
  | .hbm, ⟨34, _⟩ => ⟨S2048x1, .i1⟩
  | .hbm, ⟨35, _⟩ => ⟨S_, .i1⟩
  | .hbm, ⟨36, _⟩ => ⟨S2048, .i1⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048x1, .i32⟩
  | .hbm, ⟨49, _⟩ => ⟨S1, .i32⟩
  | .hbm, ⟨50, _⟩ => ⟨S_, .i32⟩
  | .hbm, ⟨51, _⟩ => ⟨S2048x1, .i32⟩
  | .hbm, ⟨52, _⟩ => ⟨S2048x1, .i1⟩
  | .hbm, ⟨53, _⟩ => ⟨S1x1, .i32⟩
  | .hbm, ⟨54, _⟩ => ⟨S2048x1, .i32⟩
  | .hbm, ⟨55, _⟩ => ⟨S2048x1, .i1⟩
  | .hbm, ⟨56, _⟩ => ⟨S2048x1, .i1⟩
  | .hbm, ⟨57, _⟩ => ⟨S_, .i1⟩
  | .hbm, ⟨58, _⟩ => ⟨S2048, .i1⟩
  | .hbm, ⟨59, _⟩ => ⟨S2048, .f32⟩
  | .hbm, ⟨60, _⟩ => ⟨S_, .f32⟩
  | .hbm, ⟨61, _⟩ => ⟨S2048, .f32⟩
  | .hbm, ⟨62, _⟩ => ⟨S2048, .f32⟩
  | .hbm, ⟨63, _⟩ => ⟨S_, .i32⟩
  | .hbm, ⟨64, _⟩ => ⟨S_, .i32⟩
  | .hbm, ⟨65, _⟩ => ⟨S2048, .i32⟩
  | .hbm, ⟨66, _⟩ => ⟨S2048, .i32⟩
  | .hbm, ⟨67, _⟩ => ⟨S2048, .i32⟩
  | .hbm, ⟨68, _⟩ => ⟨S_, .i32⟩
  | .hbm, ⟨69, _⟩ => ⟨S2048, .i32⟩
  | .hbm, ⟨70, _⟩ => ⟨S2048, .i1⟩
  | .hbm, ⟨71, _⟩ => ⟨S2048, .i32⟩
  | .hbm, ⟨72, _⟩ => ⟨S2048, .i32⟩
  | .hbm, ⟨73, _⟩ => ⟨S_, .i32⟩
  | .hbm, ⟨74, _⟩ => ⟨S2048, .i32⟩
  | .hbm, ⟨75, _⟩ => ⟨S2048, .i1⟩
  | .hbm, ⟨76, _⟩ => ⟨S2048, .i1⟩
  | .hbm, ⟨77, _⟩ => ⟨S_, .i32⟩
  | .hbm, ⟨78, _⟩ => ⟨S2048, .i32⟩
  | .hbm, ⟨79, _⟩ => ⟨S2048, .i32⟩
  | .hbm, ⟨80, _⟩ => ⟨S2048, .i32⟩
  | .hbm, ⟨81, _⟩ => ⟨S1x2048, .f32⟩
  | .hbm, ⟨82, _⟩ => ⟨S1x2048, .f32⟩
  | .hbm, ⟨83, _⟩ => ⟨S1x2048, .f32⟩
  | .hbm, ⟨84, _⟩ => ⟨S1x2048, .i32⟩
  | .hbm, ⟨85, _⟩ => ⟨S2x2048, .f32⟩
  | .hbm, ⟨86, _⟩ => ⟨S1x2048, .f32⟩
  | .hbm, ⟨87, _⟩ => ⟨S1x2048, .f32⟩
  | .hbm, ⟨88, _⟩ => ⟨S2048x2, .f32⟩
  | .hbm, ⟨89, _⟩ => ⟨S2048, .f32⟩
  | .hbm, ⟨90, _⟩ => ⟨S2048, .f32⟩
  | .hbm, ⟨91, _⟩ => ⟨S_, .f32⟩
  | .hbm, ⟨92, _⟩ => ⟨S2048, .f32⟩
  | .hbm, ⟨93, _⟩ => ⟨S2048, .i1⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .i32⟩
  | .local _ .vmem, ⟨4, _⟩ => ⟨S2x2048, .f32⟩
  | .local _ .vmem, ⟨5, _⟩ => ⟨S1x2048, .f32⟩
  | .local _ .vmem, ⟨6, _⟩ => ⟨S1x2048, .f32⟩
  | _, _ => ⟨S16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_values : Ref sig .tc := ⟨.hbm, 17, rfl⟩
abbrev main_indices : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v11 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v12 : Ref sig .tc := ⟨.hbm, 62, rfl⟩
abbrev main_c : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18_0 : Ref sig .tc := ⟨.hbm, 85, rfl⟩
abbrev main_v18_1 : Ref sig .tc := ⟨.hbm, 86, rfl⟩
abbrev main_v18_2 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_cst_1 : Ref sig .tc := ⟨.hbm, 91, rfl⟩
abbrev main_v22 : Ref sig .tc := ⟨.hbm, 92, rfl⟩
abbrev main_v23 : Ref sig .tc := ⟨.hbm, 93, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v40 : BitVec 32 := Scalar.addi c0_i32 c128_i32
  let c1_i32 : BitVec 32 := 1#32
  ⟨c0_i32, v40, c1_i32⟩
@[reducible] def k0_t2_loop : Scf.Loop 32 :=
  let c0_i32_33 : BitVec 32 := 0#32
  let c128_i32_34 : BitVec 32 := 128#32
  let v133 : BitVec 32 := Scalar.addi c0_i32_33 c128_i32_34
  let c1_i32_35 : BitVec 32 := 1#32
  ⟨c0_i32_33, v133, c1_i32_35⟩
@[reducible] def k0_t3_loop : Scf.Loop 32 :=
  let c0_i32_59 : BitVec 32 := 0#32
  let c128_i32_60 : BitVec 32 := 128#32
  let v223 : BitVec 32 := Scalar.addi c0_i32_59 c128_i32_60
  let c1_i32_61 : BitVec 32 := 1#32
  ⟨c0_i32_59, v223, c1_i32_61⟩
@[reducible] def k0_t4_loop : Scf.Loop 32 :=
  let c0_i32_84 : BitVec 32 := 0#32
  let c128_i32_85 : BitVec 32 := 128#32
  let v310 : BitVec 32 := Scalar.addi c0_i32_84 c128_i32_85
  let c1_i32_86 : BitVec 32 := 1#32
  ⟨c0_i32_84, v310, c1_i32_86⟩
@[reducible] def k0_t5_loop : Scf.Loop 32 :=
  let c0_i32_108 : BitVec 32 := 0#32
  let c128_i32_109 : BitVec 32 := 128#32
  let v394 : BitVec 32 := Scalar.addi c0_i32_108 c128_i32_109
  let c1_i32_110 : BitVec 32 := 1#32
  ⟨c0_i32_108, v394, c1_i32_110⟩
@[reducible] def k0_t6_loop : Scf.Loop 32 :=
  let c0_i32_131 : BitVec 32 := 0#32
  let c128_i32_132 : BitVec 32 := 128#32
  let v475 : BitVec 32 := Scalar.addi c0_i32_131 c128_i32_132
  let c1_i32_133 : BitVec 32 := 1#32
  ⟨c0_i32_131, v475, c1_i32_133⟩
@[reducible] def k0_t7_loop : Scf.Loop 32 :=
  let c0_i32_153 : BitVec 32 := 0#32
  let c128_i32_154 : BitVec 32 := 128#32
  let v553 : BitVec 32 := Scalar.addi c0_i32_153 c128_i32_154
  let c1_i32_155 : BitVec 32 := 1#32
  ⟨c0_i32_153, v553, c1_i32_155⟩
@[reducible] def k0_t8_loop : Scf.Loop 32 :=
  let c0_i32_174 : BitVec 32 := 0#32
  let c128_i32_175 : BitVec 32 := 128#32
  let v628 : BitVec 32 := Scalar.addi c0_i32_174 c128_i32_175
  let c1_i32_176 : BitVec 32 := 1#32
  ⟨c0_i32_174, v628, c1_i32_176⟩
@[reducible] def k0_t9_loop : Scf.Loop 32 :=
  let c0_i32_194 : BitVec 32 := 0#32
  let c128_i32_195 : BitVec 32 := 128#32
  let v700 : BitVec 32 := Scalar.addi c0_i32_194 c128_i32_195
  let c1_i32_196 : BitVec 32 := 1#32
  ⟨c0_i32_194, v700, c1_i32_196⟩
@[reducible] def k0_t10_loop : Scf.Loop 32 :=
  let c0_i32_213 : BitVec 32 := 0#32
  let c128_i32_214 : BitVec 32 := 128#32
  let v769 : BitVec 32 := Scalar.addi c0_i32_213 c128_i32_214
  let c1_i32_215 : BitVec 32 := 1#32
  ⟨c0_i32_213, v769, c1_i32_215⟩
@[reducible] def k0_t11_loop : Scf.Loop 32 :=
  let c0_i32_231 : BitVec 32 := 0#32
  let c128_i32_232 : BitVec 32 := 128#32
  let v835 : BitVec 32 := Scalar.addi c0_i32_231 c128_i32_232
  let c1_i32_233 : BitVec 32 := 1#32
  ⟨c0_i32_231, v835, c1_i32_233⟩
@[reducible] def k0_t12_loop : Scf.Loop 32 :=
  let c0_i32_248 : BitVec 32 := 0#32
  let c128_i32_249 : BitVec 32 := 128#32
  let v898 : BitVec 32 := Scalar.addi c0_i32_248 c128_i32_249
  let c1_i32_250 : BitVec 32 := 1#32
  ⟨c0_i32_248, v898, c1_i32_250⟩
@[reducible] def k0_t13_loop : Scf.Loop 32 :=
  let c0_i32_264 : BitVec 32 := 0#32
  let c128_i32_265 : BitVec 32 := 128#32
  let v958 : BitVec 32 := Scalar.addi c0_i32_264 c128_i32_265
  let c1_i32_266 : BitVec 32 := 1#32
  ⟨c0_i32_264, v958, c1_i32_266⟩
@[reducible] def k0_t14_loop : Scf.Loop 32 :=
  let c0_i32_279 : BitVec 32 := 0#32
  let c128_i32_280 : BitVec 32 := 128#32
  let v1015 : BitVec 32 := Scalar.addi c0_i32_279 c128_i32_280
  let c1_i32_281 : BitVec 32 := 1#32
  ⟨c0_i32_279, v1015, c1_i32_281⟩
@[reducible] def k0_t15_loop : Scf.Loop 32 :=
  let c0_i32_293 : BitVec 32 := 0#32
  let c128_i32_294 : BitVec 32 := 128#32
  let v1069 : BitVec 32 := Scalar.addi c0_i32_293 c128_i32_294
  let c1_i32_295 : BitVec 32 := 1#32
  ⟨c0_i32_293, v1069, c1_i32_295⟩
@[reducible] def k0_t16_loop : Scf.Loop 32 :=
  let c0_i32_306 : BitVec 32 := 0#32
  let c128_i32_307 : BitVec 32 := 128#32
  let v1119 : BitVec 32 := Scalar.addi c0_i32_306 c128_i32_307
  let c1_i32_308 : BitVec 32 := 1#32
  ⟨c0_i32_306, v1119, c1_i32_308⟩
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S16x64x64 : Shape := ⟨3, ![16, 64, 64]⟩
abbrev S16x2x64x64 : Shape := ⟨4, ![16, 2, 64, 64]⟩
abbrev S16x4096 : Shape := ⟨2, ![16, 4096]⟩
abbrev S16x2x4096 : Shape := ⟨3, ![16, 2, 4096]⟩
abbrev S16x4096x2 : Shape := ⟨3, ![16, 4096, 2]⟩
abbrev S_ : Shape := ⟨0, ![]⟩
abbrev S65536 : Shape := ⟨1, ![65536]⟩
abbrev S65536x2 : Shape := ⟨2, ![65536, 2]⟩
abbrev S16 : Shape := ⟨1, ![16]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S2048x2 : Shape := ⟨2, ![2048, 2]⟩
abbrev S1x2048 : Shape := ⟨2, ![1, 2048]⟩
abbrev S2048x2048 : Shape := ⟨2, ![2048, 2048]⟩

abbrev nBuf : Space → Nat
  | .hbm => 167
  | .vmem => 0
  | .smem => 0
  | _ => 0

abbrev hbmTy0_0 (i : Nat) : BufTy := match i % 128 with
  | 0 => ⟨S16x64x64, .f32⟩
  | 1 => ⟨S16x2x64x64, .f32⟩
  | 2 => ⟨S16x4096, .f32⟩
  | 3 => ⟨S16x2x64x64, .f32⟩
  | 4 => ⟨S16x2x4096, .f32⟩
  | 5 => ⟨S16x4096x2, .f32⟩
  | 6 => ⟨S_, .f32⟩
  | 7 => ⟨S16x4096x2, .f32⟩
  | 8 => ⟨S16x4096x2, .f32⟩
  | 9 => ⟨S_, .f32⟩
  | 10 => ⟨S16x4096, .f32⟩
  | 11 => ⟨S16x4096, .i1⟩
  | 12 => ⟨S_, .f32⟩
  | 13 => ⟨S_, .f32⟩
  | 14 => ⟨S16x4096, .f32⟩
  | 15 => ⟨S16x4096, .f32⟩
  | 16 => ⟨S65536, .f32⟩
  | 17 => ⟨S65536x2, .f32⟩
  | 18 => ⟨S16, .i32⟩
  | 19 => ⟨S16x4096, .i32⟩
  | 20 => ⟨S65536, .i32⟩
  | 21 => ⟨S2048, .f32⟩
  | 22 => ⟨S2048, .i32⟩
  | 23 => ⟨S_, .i32⟩
  | 24 => ⟨S2048, .i32⟩
  | 25 => ⟨S2048, .i1⟩
  | 26 => ⟨S_, .i32⟩
  | 27 => ⟨S2048, .i32⟩
  | 28 => ⟨S2048, .i32⟩
  | 29 => ⟨S2048, .i32⟩
  | 30 => ⟨S2048x1, .i32⟩
  | 31 => ⟨S1, .i32⟩
  | 32 => ⟨S_, .i32⟩
  | 33 => ⟨S2048x1, .i32⟩
  | 34 => ⟨S2048x1, .i1⟩
  | 35 => ⟨S1x1, .i32⟩
  | 36 => ⟨S2048x1, .i32⟩
  | 37 => ⟨S2048x1, .i1⟩
  | 38 => ⟨S2048x1, .i1⟩
  | 39 => ⟨S_, .i1⟩
  | 40 => ⟨S2048, .i1⟩
  | 41 => ⟨S2048x2, .f32⟩
  | 42 => ⟨S2048x2, .i1⟩
  | 43 => ⟨S_, .f32⟩
  | 44 => ⟨S2048x2, .f32⟩
  | 45 => ⟨S2048x2, .f32⟩
  | 46 => ⟨S_, .i32⟩
  | 47 => ⟨S2048, .i32⟩
  | 48 => ⟨S2048, .i1⟩
  | 49 => ⟨S_, .i32⟩
  | 50 => ⟨S2048, .i32⟩
  | 51 => ⟨S2048, .i32⟩
  | 52 => ⟨S2048, .i32⟩
  | 53 => ⟨S2048x1, .i32⟩
  | 54 => ⟨S1, .i32⟩
  | 55 => ⟨S_, .i32⟩
  | 56 => ⟨S2048x1, .i32⟩
  | 57 => ⟨S2048x1, .i1⟩
  | 58 => ⟨S1x1, .i32⟩
  | 59 => ⟨S2048x1, .i32⟩
  | 60 => ⟨S2048x1, .i1⟩
  | 61 => ⟨S2048x1, .i1⟩
  | 62 => ⟨S_, .i1⟩
  | 63 => ⟨S2048, .i1⟩
  | 64 => ⟨S2048, .i32⟩
  | 65 => ⟨S_, .i32⟩
  | 66 => ⟨S2048, .i32⟩
  | 67 => ⟨S2048, .i32⟩
  | 68 => ⟨S2048x1, .f32⟩
  | 69 => ⟨S2048, .f32⟩
  | 70 => ⟨S2048x1, .f32⟩
  | 71 => ⟨S2048, .f32⟩
  | 72 => ⟨S2048x1, .f32⟩
  | 73 => ⟨S1x2048, .f32⟩
  | 74 => ⟨S2048x2048, .f32⟩
  | 75 => ⟨S2048x2048, .f32⟩
  | 76 => ⟨S2048x2048, .f32⟩
  | 77 => ⟨S2048x1, .f32⟩
  | 78 => ⟨S1x2048, .f32⟩
  | 79 => ⟨S2048x2048, .f32⟩
  | 80 => ⟨S2048x2048, .f32⟩
  | 81 => ⟨S2048x2048, .f32⟩
  | 82 => ⟨S2048x2048, .f32⟩
  | 83 => ⟨S_, .f32⟩
  | 84 => ⟨S_, .f32⟩
  | 85 => ⟨S2048x2048, .f32⟩
  | 86 => ⟨S2048x2048, .f32⟩
  | 87 => ⟨S2048, .f32⟩
  | 88 => ⟨S2048x1, .f32⟩
  | 89 => ⟨S1x2048, .f32⟩
  | 90 => ⟨S2048x2048, .f32⟩
  | 91 => ⟨S2048x2048, .f32⟩
  | 92 => ⟨S2048x2048, .f32⟩
  | 93 => ⟨S2048x2048, .f32⟩
  | 94 => ⟨S_, .f32⟩
  | 95 => ⟨S_, .f32⟩
  | 96 => ⟨S2048x2048, .f32⟩
  | 97 => ⟨S2048x2048, .f32⟩
  | 98 => ⟨S2048x2048, .f32⟩
  | 99 => ⟨S2048x1, .i32⟩
  | 100 => ⟨S1x2048, .i32⟩
  | 101 => ⟨S2048x2048, .i32⟩
  | 102 => ⟨S2048x2048, .i32⟩
  | 103 => ⟨S2048x2048, .i1⟩
  | 104 => ⟨S_, .f32⟩
  | 105 => ⟨S_, .f32⟩
  | 106 => ⟨S2048x2048, .f32⟩
  | 107 => ⟨S2048x2048, .f32⟩
  | 108 => ⟨S_, .f32⟩
  | 109 => ⟨S2048, .f32⟩
  | 110 => ⟨S2048, .i1⟩
  | 111 => ⟨S2048, .i32⟩
  | 112 => ⟨S_, .i32⟩
  | 113 => ⟨S_, .i32⟩
  | 114 => ⟨S2048x2048, .f32⟩
  | 115 => ⟨S2048, .i32⟩
  | 116 => ⟨S_, .i32⟩
  | 117 => ⟨S_, .i32⟩
  | 118 => ⟨S2048, .i1⟩
  | 119 => ⟨S_, .i32⟩
  | 120 => ⟨S_, .i1⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S16x64x64, .f32⟩

abbrev hbmTy0_1 (i : Nat) : BufTy := match i % 128 with
  | 0 => ⟨S_, .i32⟩
  | 1 => ⟨S1, .i1⟩
  | 2 => ⟨S_, .i1⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S1x2048, .f32⟩
  | 18 => ⟨S2048, .f32⟩
  | 19 => ⟨S_, .f32⟩
  | 20 => ⟨S2048, .f32⟩
  | 21 => ⟨S2048, .i1⟩
  | 22 => ⟨S_, .i32⟩
  | 23 => ⟨S2048, .i32⟩
  | 24 => ⟨S2048, .i1⟩
  | 25 => ⟨S2048, .i1⟩
  | 26 => ⟨S2048, .i1⟩
  | 27 => ⟨S2048, .i1⟩
  | 28 => ⟨S2048, .i1⟩
  | 29 => ⟨S_, .i32⟩
  | 30 => ⟨S_, .i32⟩
  | 31 => ⟨S2048, .f32⟩
  | 32 => ⟨S2048, .f32⟩
  | 33 => ⟨S_, .f32⟩
  | 34 => ⟨S2048x2, .f32⟩
  | 35 => ⟨S2048x2, .f32⟩
  | 36 => ⟨S2048x1, .f32⟩
  | 37 => ⟨S2048x2, .f32⟩
  | 38 => ⟨S2048x2, .f32⟩
  | _ => ⟨S16x64x64, .f32⟩

abbrev hbmTy (i : Nat) : BufTy := match i / 128 with
  | 0 => hbmTy0_0 i
  | 1 => hbmTy0_1 i
  | _ => ⟨S16x64x64, .f32⟩

abbrev bufTy : (tb : Table) → Fin (tcTables nBuf tb) → BufTy
  | .hbm, ⟨i, _⟩ => hbmTy i
  | _, _ => ⟨S16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_values : Ref sig .tc := ⟨.hbm, 21, rfl⟩
abbrev main_indices : Ref sig .tc := ⟨.hbm, 22, rfl⟩
abbrev main_call2_c : Ref sig .tc := ⟨.hbm, 23, rfl⟩
abbrev main_call2_v0 : Ref sig .tc := ⟨.hbm, 24, rfl⟩
abbrev main_call2_v1 : Ref sig .tc := ⟨.hbm, 25, rfl⟩
abbrev main_call2_c_0 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_c_1 : Ref sig .tc := ⟨.hbm, 31, rfl⟩
abbrev main_call2_c_2 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_3 : Ref sig .tc := ⟨.hbm, 39, rfl⟩
abbrev main_call2_v12 : Ref sig .tc := ⟨.hbm, 40, rfl⟩
abbrev main_call2_v13 : Ref sig .tc := ⟨.hbm, 41, rfl⟩
abbrev main_call2_v14 : Ref sig .tc := ⟨.hbm, 42, rfl⟩
abbrev main_call2_cst : Ref sig .tc := ⟨.hbm, 43, rfl⟩
abbrev main_call2_v15 : Ref sig .tc := ⟨.hbm, 44, rfl⟩
abbrev main_v14 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_c_1 : Ref sig .tc := ⟨.hbm, 54, rfl⟩
abbrev main_call3_c_2 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_call3_v11 : Ref sig .tc := ⟨.hbm, 61, rfl⟩
abbrev main_call3_c_3 : Ref sig .tc := ⟨.hbm, 62, rfl⟩
abbrev main_call3_v12 : Ref sig .tc := ⟨.hbm, 63, rfl⟩
abbrev main_call3_v13 : Ref sig .tc := ⟨.hbm, 64, rfl⟩
abbrev main_call3_c_4 : Ref sig .tc := ⟨.hbm, 65, rfl⟩
abbrev main_call3_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_cst_2 : Ref sig .tc := ⟨.hbm, 83, rfl⟩
abbrev main_call4_v0 : Ref sig .tc := ⟨.hbm, 84, rfl⟩
abbrev main_call4_v1 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_cst_3 : Ref sig .tc := ⟨.hbm, 94, rfl⟩
abbrev main_call5_v0 : Ref sig .tc := ⟨.hbm, 95, rfl⟩
abbrev main_call5_v1 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_cst_4 : Ref sig .tc := ⟨.hbm, 104, rfl⟩
abbrev main_call6_v0 : Ref sig .tc := ⟨.hbm, 105, rfl⟩
abbrev main_call6_v1 : Ref sig .tc := ⟨.hbm, 106, rfl⟩
abbrev main_v46 : Ref sig .tc := ⟨.hbm, 107, rfl⟩
abbrev main_cst_5 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_c : Ref sig .tc := ⟨.hbm, 112, rfl⟩
abbrev main_c_6 : Ref sig .tc := ⟨.hbm, 113, rfl⟩
abbrev main_v50_0 : Ref sig .tc := ⟨.hbm, 114, rfl⟩
abbrev main_v50_1 : Ref sig .tc := ⟨.hbm, 115, rfl⟩
abbrev main_v50_2 : Ref sig .tc := ⟨.hbm, 116, rfl⟩
abbrev main_v50_3 : Ref sig .tc := ⟨.hbm, 117, rfl⟩
abbrev main_v50_4 : Ref sig .tc := ⟨.hbm, 118, rfl⟩
abbrev main_while0c_c_12 : Ref sig .tc := ⟨.hbm, 119, rfl⟩
abbrev main_while0c_v58 : Ref sig .tc := ⟨.hbm, 120, rfl⟩
abbrev main_while0b_c_12 : Ref sig .tc := ⟨.hbm, 121, rfl⟩
abbrev main_while0b_v58 : Ref sig .tc := ⟨.hbm, 122, rfl⟩
abbrev main_while0b_c_13 : Ref sig .tc := ⟨.hbm, 123, rfl⟩
abbrev main_while0b_v59 : Ref sig .tc := ⟨.hbm, 124, rfl⟩
abbrev main_while0b_v60 : Ref sig .tc := ⟨.hbm, 125, rfl⟩
abbrev main_while0b_c_14 : Ref sig .tc := ⟨.hbm, 126, rfl⟩
abbrev main_while0b_v61 : Ref sig .tc := ⟨.hbm, 127, rfl⟩
abbrev main_while0b_v62 : Ref sig .tc := ⟨.hbm, 128, rfl⟩
abbrev main_while0b_v63 : Ref sig .tc := ⟨.hbm, 129, rfl⟩
abbrev main_while0b_v64 : Ref sig .tc := ⟨.hbm, 130, rfl⟩
abbrev main_while0b_v65 : Ref sig .tc := ⟨.hbm, 131, rfl⟩
abbrev main_while0b_c_15 : Ref sig .tc := ⟨.hbm, 132, rfl⟩
abbrev main_while0b_v66 : Ref sig .tc := ⟨.hbm, 133, rfl⟩
abbrev main_while0b_c_16 : Ref sig .tc := ⟨.hbm, 134, rfl⟩
abbrev main_while0b_v67 : Ref sig .tc := ⟨.hbm, 135, rfl⟩
abbrev main_while0b_v68 : Ref sig .tc := ⟨.hbm, 136, rfl⟩
abbrev main_while0b_c_17 : Ref sig .tc := ⟨.hbm, 137, rfl⟩
abbrev main_while0b_c_18 : Ref sig .tc := ⟨.hbm, 138, rfl⟩
abbrev main_while0b_v69 : Ref sig .tc := ⟨.hbm, 139, rfl⟩
abbrev main_while0b_c_19 : Ref sig .tc := ⟨.hbm, 140, rfl⟩
abbrev main_while0b_c_20 : Ref sig .tc := ⟨.hbm, 141, rfl⟩
abbrev main_while0b_v70 : Ref sig .tc := ⟨.hbm, 142, rfl⟩
abbrev main_while0b_c_21 : Ref sig .tc := ⟨.hbm, 143, rfl⟩
abbrev main_while0b_v71 : Ref sig .tc := ⟨.hbm, 144, rfl⟩
abbrev main_while0b_v72 : Ref sig .tc := ⟨.hbm, 145, rfl⟩
abbrev main_while0b_v73 : Ref sig .tc := ⟨.hbm, 146, rfl⟩
abbrev main_while0b_cst_22 : Ref sig .tc := ⟨.hbm, 147, rfl⟩
abbrev main_while0b_v74 : Ref sig .tc := ⟨.hbm, 148, rfl⟩
abbrev main_while0b_v75 : Ref sig .tc := ⟨.hbm, 149, rfl⟩
abbrev main_while0b_v76 : Ref sig .tc := ⟨.hbm, 150, rfl⟩
abbrev main_while0b_v77 : Ref sig .tc := ⟨.hbm, 151, rfl⟩
abbrev main_while0b_v78 : Ref sig .tc := ⟨.hbm, 152, rfl⟩
abbrev main_while0b_v79 : Ref sig .tc := ⟨.hbm, 153, rfl⟩
abbrev main_while0b_v80 : Ref sig .tc := ⟨.hbm, 154, rfl⟩
abbrev main_while0b_v81 : Ref sig .tc := ⟨.hbm, 155, rfl⟩
abbrev main_while0b_v82 : Ref sig .tc := ⟨.hbm, 156, rfl⟩
abbrev main_while0b_c_23 : Ref sig .tc := ⟨.hbm, 157, rfl⟩
abbrev main_while0b_v83 : Ref sig .tc := ⟨.hbm, 158, rfl⟩
abbrev main_v51 : Ref sig .tc := ⟨.hbm, 159, rfl⟩
abbrev main_v52 : Ref sig .tc := ⟨.hbm, 160, rfl⟩
abbrev main_cst_7 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_v56 : Ref sig .tc := ⟨.hbm, 165, rfl⟩
abbrev main_v57 : Ref sig .tc := ⟨.hbm, 166, rfl⟩

abbrev nD : Nat := 1
abbrev τ : Topo := Topo.v7x

variable {F : FTy → Type} [FloatOps F]

abbrev main_while0_count : Scf.Loop 32 := ⟨0#32, 2048#32, 1#32⟩
-- ==== Proof.IdealBody.lean ====
module

public import proofs.«01_k».proof.Proof.Gen.KernelIdeal.Frame
public import Idealize.ShloMosaic.Lib.Exec

@[expose] public section

set_option maxRecDepth 16384

noncomputable section

namespace Cert.KernelIdeal.Greedy

open Idealize.ShloMosaic Idealize.ShloMosaic.TcCoe Idealize.ShloMosaic.Tactic
open Idealize.SL.Sem
open Facts₀ Facts

variable {F : FTy → Type} [FloatOps F]

/-- The kernel's programs. -/
local notation "ℙ" => Prog (TpuEff nD τ sig (Elt F) Λ₀ Proc.tc)

/-- A bind of two programs that do nothing but return does nothing but return. -/
theorem ret_bind {α β : Type} {p : ℙ α} {k : α → ℙ β} (hp : ∃ r, p = pure r)
    (hk : ∀ r, ∃ s, k r = pure s) : ∃ s, p >>= k = pure s := by
  obtain ⟨r, rfl⟩ := hp
  obtain ⟨s, hs⟩ := hk r
  exact ⟨s, hs⟩

/-- A program that only returns, before one of a family of programs, is one of that family. -/
theorem bind_family {α β ι : Type} {tail : ι → ℙ β} {p : ℙ α} {k : α → ℙ β}
    (hp : ∃ r, p = pure r) (hk : ∀ r, ∃ s, k r = tail s) : ∃ s, p >>= k = tail s := by
  obtain ⟨r, rfl⟩ := hp
  exact hk r

/-- A counted loop whose trips only return only returns. -/
theorem loop_ret {σ : Type} {l : Scf.Loop 32} {hok : l.OK} {init : σ} {body : Fin l.trips → σ → ℙ σ}
    (h : ∀ k acc, ∃ r, body k acc = pure r) : ∃ r, Scf.Loop.for l hok init body = pure r := by
  choose g hg using h
  exact ⟨_, Scf.for_pure _ _ _ _ _ _ g hg⟩

/-- The kernel's body from the four loads on, given the four stored rows. -/
def storesOf (arg4 : Memref sig .tc .vmem S2x2048 .f32) (arg5 arg6 : Memref sig .tc .vmem S1x2048 .f32)
    (y : Fin 4 → Vec F S1x2048 .f32) : ℙ PUnit := do
  let _ : Vec F S1x2048 .f32 ← Prog.lift (.load arg5 (Rect.unit (s := S1x2048) ![0, 0] S1x2048.size inb_S1x2048_S1x2048_0_0).toLoadRect (View.loadsAt_vmem h_S1x2048))
  Prog.lift (.store arg5 (Rect.unit (s := S1x2048) ![0, 0] S1x2048.size inb_S1x2048_S1x2048_0_0) (y 0) Finset.univ (View.stores_vmem_bits_univ h_S1x2048 rfl) (.inl rfl))
  let _ : Vec F S1x2048 .f32 ← Prog.lift (.load arg6 (Rect.unit (s := S1x2048) ![0, 0] S1x2048.size inb_S1x2048_S1x2048_0_0).toLoadRect (View.loadsAt_vmem h_S1x2048))
  Prog.lift (.store arg6 (Rect.unit (s := S1x2048) ![0, 0] S1x2048.size inb_S1x2048_S1x2048_0_0) (y 1) Finset.univ (View.stores_vmem_bits_univ h_S1x2048 rfl) (.inl rfl))
  let _ : Vec F S1x2048 .f32 ← Prog.lift (.load arg4 (Rect.unit (s := S2x2048) ![0, 0] S1x2048.size inb_S2x2048_S1x2048_0_0).toLoadRect (View.loadsAt_vmem h_S1x2048))
  Prog.lift (.store arg4 (Rect.unit (s := S2x2048) ![0, 0] S1x2048.size inb_S2x2048_S1x2048_0_0) (y 2) Finset.univ (View.stores_vmem_bits_univ h_S1x2048 rfl) (.inl rfl))
  let _ : Vec F S1x2048 .f32 ← Prog.lift (.load arg4 (Rect.unit (s := S2x2048) ![1, 0] S1x2048.size inb_S2x2048_S1x2048_1_0).toLoadRect (View.loadsAt_vmem h_S1x2048))
  Prog.lift (.store arg4 (Rect.unit (s := S2x2048) ![1, 0] S1x2048.size inb_S2x2048_S1x2048_1_0) (y 3) Finset.univ (View.stores_vmem_bits_univ h_S1x2048 rfl) (.inl rfl))
  pure ⟨⟩

/-- The kernel's four loads, before a program that reads what they loaded. -/
def loadsOf {α : Type} (arg0 arg1 arg2 : Memref sig .tc .vmem S1x2048 .f32) (arg3 : Memref sig .tc .vmem S1x2048 .i32)
    (k : Vec F S1x2048 .f32 → Vec F S1x2048 .f32 → Vec F S1x2048 .i32 → Vec F S1x2048 .f32 → ℙ α) : ℙ α := do
  let x1 : Vec F S1x2048 .f32 ← Prog.lift (.load arg1 (Rect.unit (s := S1x2048) ![0, 0] S1x2048.size inb_S1x2048_S1x2048_0_0).toLoadRect (View.loadsAt_vmem h_S1x2048))
  let x2 : Vec F S1x2048 .f32 ← Prog.lift (.load arg2 (Rect.unit (s := S1x2048) ![0, 0] S1x2048.size inb_S1x2048_S1x2048_0_0).toLoadRect (View.loadsAt_vmem h_S1x2048))
  let x3 : Vec F S1x2048 .i32 ← Prog.lift (.load arg3 (Rect.unit (s := S1x2048) ![0, 0] S1x2048.size inb_S1x2048_S1x2048_0_0).toLoadRect (View.loadsAt_vmem h_S1x2048))
  let x0 : Vec F S1x2048 .f32 ← Prog.lift (.load arg0 (Rect.unit (s := S1x2048) ![0, 0] S1x2048.size inb_S1x2048_S1x2048_0_0).toLoadRect (View.loadsAt_vmem h_S1x2048))
  k x1 x2 x3 x0

/-- The kernel's body with what it stores left open: it loads the four inputs, then stores the row of scores,
    the row of keep flags and the two rows of boxes, each a function of what it loaded. -/
def bodyOf (arg0 arg1 arg2 : Memref sig .tc .vmem S1x2048 .f32) (arg3 : Memref sig .tc .vmem S1x2048 .i32)
    (arg4 : Memref sig .tc .vmem S2x2048 .f32) (arg5 arg6 : Memref sig .tc .vmem S1x2048 .f32)
    (g : Vec F S1x2048 .f32 → Vec F S1x2048 .f32 → Vec F S1x2048 .f32 → Vec F S1x2048 .i32 → Fin 4 → Vec F S1x2048 .f32) :
    ℙ PUnit :=
  loadsOf arg0 arg1 arg2 arg3 fun x1 x2 x3 x0 => storesOf arg4 arg5 arg6 (g x0 x1 x2 x3)

/-- Four loads followed by programs each one of a family are four loads followed by a choice from it. -/
theorem loads_family {α ι : Type} (tail : ι → ℙ α) (arg0 arg1 arg2 : Memref sig .tc .vmem S1x2048 .f32)
    (arg3 : Memref sig .tc .vmem S1x2048 .i32)
    (k : Vec F S1x2048 .f32 → Vec F S1x2048 .f32 → Vec F S1x2048 .i32 → Vec F S1x2048 .f32 → ℙ α)
    (hk : ∀ x1 x2 x3 x0, ∃ y, k x1 x2 x3 x0 = tail y) :
    ∃ g : Vec F S1x2048 .f32 → Vec F S1x2048 .f32 → Vec F S1x2048 .f32 → Vec F S1x2048 .i32 → ι,
      loadsOf arg0 arg1 arg2 arg3 k = loadsOf arg0 arg1 arg2 arg3 fun x1 x2 x3 x0 => tail (g x0 x1 x2 x3) := by
  choose y hy using hk
  refine ⟨fun x0 x1 x2 x3 => y x1 x2 x3 x0, ?_⟩
  rw [show k = fun x1 x2 x3 x0 => tail (y x1 x2 x3 x0) from
    funext fun x1 => funext fun x2 => funext fun x3 => funext fun x0 => hy x1 x2 x3 x0]

/-- A continuation of the four loads runs after what follows them. -/
theorem loads_bind {α β : Type} (arg0 arg1 arg2 : Memref sig .tc .vmem S1x2048 .f32)
    (arg3 : Memref sig .tc .vmem S1x2048 .i32)
    (k : Vec F S1x2048 .f32 → Vec F S1x2048 .f32 → Vec F S1x2048 .i32 → Vec F S1x2048 .f32 → ℙ α) (h : α → ℙ β) :
    loadsOf arg0 arg1 arg2 arg3 k >>= h = loadsOf arg0 arg1 arg2 arg3 fun x1 x2 x3 x0 => k x1 x2 x3 x0 >>= h := rfl

section
variable (arg0 : Memref sig .tc .vmem S1x2048 .f32) (harg0 : arg0.IsWhole) (arg1 : Memref sig .tc .vmem S1x2048 .f32) (harg1 : arg1.IsWhole) (arg2 : Memref sig .tc .vmem S1x2048 .f32) (harg2 : arg2.IsWhole) (arg3 : Memref sig .tc .vmem S1x2048 .i32) (harg3 : arg3.IsWhole) (arg4 : Memref sig .tc .vmem S2x2048 .f32) (harg4 : arg4.IsWhole) (arg5 : Memref sig .tc .vmem S1x2048 .f32) (harg5 : arg5.IsWhole) (arg6 : Memref sig .tc .vmem S1x2048 .f32) (harg6 : arg6.IsWhole)

/-- The first part of the body loads the four inputs and computes from them. -/
theorem part17_loads : ∃ f : Vec F S1x2048 .f32 → Vec F S1x2048 .f32 → Vec F S1x2048 .f32 → Vec F S1x2048 .i32 → _, (k0_part17 arg0 harg0 arg1 harg1 arg2 harg2 arg3 harg3 arg4 harg4 arg5 harg5 arg6 harg6 : ℙ _) =
    loadsOf arg0 arg1 arg2 arg3 fun x1 x2 x3 x0 => pure (f x0 x1 x2 x3) := by
  unfold k0_part17
  exact loads_family pure arg0 arg1 arg2 arg3 (fun x1 x2 x3 x0 => _) fun x1 x2 x3 x0 =>
    ret_bind (loop_ret fun k acc => ⟨_, rfl⟩) fun r => ⟨_, rfl⟩

/-- The kernel's body loads its four inputs, computes, and stores four rows. -/
theorem kernel_body : ∃ g, (cc0__nms_kernel arg0 harg0 arg1 harg1 arg2 harg2 arg3 harg3 arg4 harg4 arg5 harg5 arg6 harg6 : ℙ PUnit) =
      bodyOf arg0 arg1 arg2 arg3 arg4 arg5 arg6 g := by
  obtain ⟨f, hf⟩ := part17_loads (F := F) arg0 harg0 arg1 harg1 arg2 harg2 arg3 harg3 arg4 harg4 arg5 harg5 arg6 harg6
  unfold cc0__nms_kernel bodyOf
  rw [hf, loads_bind]
  refine loads_family (storesOf arg4 arg5 arg6) arg0 arg1 arg2 arg3 (fun x1 x2 x3 x0 => _) fun x1 x2 x3 x0 => ?_
  refine bind_family ⟨_, rfl⟩ fun r17 => ?_
  refine bind_family ⟨_, rfl⟩ fun r18 => ?_
  refine bind_family (by unfold k0_part19; exact ret_bind (loop_ret fun k acc => ⟨_, rfl⟩) fun r => ⟨_, rfl⟩) fun r19 => ?_
  refine bind_family ⟨_, rfl⟩ fun r20 => ?_
  refine bind_family (by unfold k0_part21; exact ret_bind (loop_ret fun k acc => ⟨_, rfl⟩) fun r => ⟨_, rfl⟩) fun r21 => ?_
  refine bind_family ⟨_, rfl⟩ fun r22 => ?_
  refine bind_family (by unfold k0_part23; exact ret_bind (loop_ret fun k acc => ⟨_, rfl⟩) fun r => ⟨_, rfl⟩) fun r23 => ?_
  refine bind_family ⟨_, rfl⟩ fun r24 => ?_
  refine bind_family (by unfold k0_part25; exact ret_bind (loop_ret fun k acc => ⟨_, rfl⟩) fun r => ⟨_, rfl⟩) fun r25 => ?_
  refine bind_family ⟨_, rfl⟩ fun r26 => ?_
  refine bind_family (by unfold k0_part27; exact ret_bind (loop_ret fun k acc => ⟨_, rfl⟩) fun r => ⟨_, rfl⟩) fun r27 => ?_
  refine bind_family (by unfold k0_part28; exact ret_bind (loop_ret fun k acc => ⟨_, rfl⟩) fun r => ⟨_, rfl⟩) fun r28 => ?_
  refine bind_family ⟨_, rfl⟩ fun r29 => ?_
  refine bind_family (by unfold k0_part30; exact ret_bind (loop_ret fun k acc => ⟨_, rfl⟩) fun r => ⟨_, rfl⟩) fun r30 => ?_
  refine bind_family ⟨_, rfl⟩ fun r31 => ?_
  refine bind_family (by unfold k0_part32; exact ret_bind (loop_ret fun k acc => ⟨_, rfl⟩) fun r => ⟨_, rfl⟩) fun r32 => ?_
  refine bind_family (by unfold k0_part33; exact ret_bind (loop_ret fun k acc => ⟨_, rfl⟩) fun r => ⟨_, rfl⟩) fun r33 => ?_
  refine bind_family (by unfold k0_part34; exact ret_bind (loop_ret fun k acc => ⟨_, rfl⟩) fun r => ⟨_, rfl⟩) fun r34 => ?_
  refine bind_family ⟨_, rfl⟩ fun r35 => ?_
  refine bind_family (by unfold k0_part36; exact ret_bind (loop_ret fun k acc => ⟨_, rfl⟩) fun r => ⟨_, rfl⟩) fun r36 => ?_
  refine bind_family (by unfold k0_part37; exact ret_bind (loop_ret fun k acc => ⟨_, rfl⟩) fun r => ⟨_, rfl⟩) fun r37 => ?_
  refine bind_family (by unfold k0_part38; exact ret_bind (loop_ret fun k acc => ⟨_, rfl⟩) fun r => ⟨_, rfl⟩) fun r38 => ?_
  refine bind_family (by unfold k0_part39; exact ret_bind (loop_ret fun k acc => ⟨_, rfl⟩) fun r => ⟨_, rfl⟩) fun r39 => ?_
  refine bind_family (by unfold k0_part40; exact ret_bind (loop_ret fun k acc => ⟨_, rfl⟩) fun r => ⟨_, rfl⟩) fun r40 => ?_
  exact ⟨fun | 0 => r40.2 | 1 => r40.1 | 2 => mulf r17.1 r40.1 | 3 => mulf r17.2.1 r40.1, rfl⟩

end

end Cert.KernelIdeal.Greedy
-- ==== Proof.IdealRun.lean ====
module

public import proofs.«01_k».proof.Proof.IdealBody
public import Idealize.ShloMosaic.Lib.VecWindow

@[expose] public section

set_option maxRecDepth 16384

noncomputable section

namespace Cert.KernelIdeal.Greedy

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What the kernel stores, a function of its four inputs: scores, keep flags, left ends, right ends. -/
abbrev Rows (F : FTy → Type) := Vec F S1x2048 .f32 → Vec F S1x2048 .f32 → Vec F S1x2048 .f32 → Vec F S1x2048 .i32 →
  Fin 4 → Vec F S1x2048 .f32

/-- A row buffer after its one store. -/
def outRow (y : Vec F S1x2048 .f32) : Vec F S1x2048 .f32 :=
  View.canon [⟨Rect.unit (s := S1x2048) ![0, 0] S1x2048.size inb_S1x2048_S1x2048_0_0, y⟩]

/-- The box buffer after its two stores, one row each. -/
def outBox (y z : Vec F S1x2048 .f32) : Vec F S2x2048 .f32 :=
  View.canon [⟨Rect.unit (s := S2x2048) ![1, 0] S1x2048.size inb_S2x2048_S1x2048_1_0, z⟩,
    ⟨Rect.unit (s := S2x2048) ![0, 0] S1x2048.size inb_S2x2048_S1x2048_0_0, y⟩]

theorem cover_row (y : Vec F S1x2048 .f32) (i : S1x2048.Idx) :
    ∃ p ∈ ([⟨Rect.unit (s := S1x2048) ![0, 0] S1x2048.size inb_S1x2048_S1x2048_0_0, y⟩] :
      List (View.Piece (Elt F) S1x2048 .f32)), i ∈ p.1.set :=
  View.cover_of_tiled [⟨Rect.unit (s := S1x2048) ![0, 0] S1x2048.size inb_S1x2048_S1x2048_0_0, y⟩] S1x2048.size (by rfl) i

theorem cover_box (y z : Vec F S1x2048 .f32) (i : S2x2048.Idx) :
    ∃ p ∈ ([⟨Rect.unit (s := S2x2048) ![1, 0] S1x2048.size inb_S2x2048_S1x2048_1_0, z⟩,
      ⟨Rect.unit (s := S2x2048) ![0, 0] S1x2048.size inb_S2x2048_S1x2048_0_0, y⟩] :
      List (View.Piece (Elt F) S2x2048 .f32)), i ∈ p.1.set :=
  View.cover_of_tiled [⟨Rect.unit (s := S2x2048) ![1, 0] S1x2048.size inb_S2x2048_S1x2048_1_0, z⟩,
    ⟨Rect.unit (s := S2x2048) ![0, 0] S1x2048.size inb_S2x2048_S1x2048_0_0, y⟩] S1x2048.size (by rfl) i

set_option maxHeartbeats 2000000 in
/-- The body on whole buffers: from the four inputs at known contents it leaves them as they were and the three
    outputs at what it stores. -/
theorem sound_bodyOf (c : Dev nD) (E : Set ℕ) (arg0 : Memref sig .tc .vmem S1x2048 .f32) (arg1 : Memref sig .tc .vmem S1x2048 .f32) (arg2 : Memref sig .tc .vmem S1x2048 .f32) (arg3 : Memref sig .tc .vmem S1x2048 .i32) (arg4 : Memref sig .tc .vmem S2x2048 .f32) (arg5 : Memref sig .tc .vmem S1x2048 .f32) (arg6 : Memref sig .tc .vmem S1x2048 .f32)
    (g : Rows F) (x0 x1 x2 : Vec F S1x2048 .f32) (x3 : Vec F S1x2048 .i32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (∃ d, owns (c : Thread nD τ) arg6 fullShare d)
        ∗ (iprop(owns (c : Thread nD τ) arg0 fullShare x0 ∗ owns (c : Thread nD τ) arg1 fullShare x1
          ∗ owns (c : Thread nD τ) arg2 fullShare x2 ∗ owns (c : Thread nD τ) arg3 fullShare x3
          ∗ owns (c : Thread nD τ) arg4 fullShare (outBox (g x0 x1 x2 x3 2) (g x0 x1 x2 x3 3))
          ∗ owns (c : Thread nD τ) arg5 fullShare (outRow (g x0 x1 x2 x3 0))
          ∗ owns (c : Thread nD τ) arg6 fullShare (outRow (g x0 x1 x2 x3 1))) -∗ K ⟨⟩))
      ⊢ wp frame (wpE (defs₀ (F := F)) Variants.none c none) E
          (bodyOf arg0 arg1 arg2 arg3 arg4 arg5 arg6 g) K := by
  unfold bodyOf loadsOf storesOf owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  have h0 := View.readAt_full (Val := Elt F) arg0.view f0 (off := ![0, 0]) inb_S1x2048_S1x2048_0_0
  have h1 := View.readAt_full (Val := Elt F) arg1.view f1 (off := ![0, 0]) inb_S1x2048_S1x2048_0_0
  have h2 := View.readAt_full (Val := Elt F) arg2.view f2 (off := ![0, 0]) inb_S1x2048_S1x2048_0_0
  have h3 := View.readAt_full (Val := Elt F) arg3.view f3 (off := ![0, 0]) inb_S1x2048_S1x2048_0_0
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover_box _ _), outBox, h0, h1, h2, h3]
  isplitl [H5]
  · iexists _; isplitr
    swap; · iexact H5
    ipureintro
    rw [View.read_writes_eq_canon _ _ _ (cover_row _), outRow, h0, h1, h2, h3]
  iexists _; isplitr
  swap; · iexact H6
  ipureintro
  rw [View.read_writes_eq_canon _ _ _ (cover_row _), outRow, h0, h1, h2, h3]

variable (m : (ℓ : Loc nD τ sig) → Buf (Elt F) ℓ) (ρ : Dev nD → PrngReg)
variable (g : Fin cfg0.N → Rows F)

/-- The proof data of the one launch: each input's buffer holds its block, each output's what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBox (g t (iblk m c 0 t) (iblk m c 1 t) (iblk m c 2 t) (iblk m c 3 t) 2)
        (g t (iblk m c 0 t) (iblk m c 1 t) (iblk m c 2 t) (iblk m c 3 t) 3)
    | ⟨5, _⟩ => outRow (g t (iblk m c 0 t) (iblk m c 1 t) (iblk m c 2 t) (iblk m c 3 t) 0)
    | ⟨6, _⟩ => outRow (g t (iblk m c 0 t) (iblk m c 1 t) (iblk m c 2 t) (iblk m c 3 t) 1)
  Φ _ := Pipeline.ΦA spec0 c
  q _ := fullShare
  owed _ := 0

theorem A_eq (c : Dev nD) (w : Fin cfg0.W) : (dats m g 0 c).A w = V m c (Pipeline.arrRef spec0 w) := by
  dsimp only [dats]

theorem after0 (c : Dev nD) (t : Fin cfg0.N) : (dats m g 0 c).after 0 t = iblk m c 0 t := by dsimp only [dats]
theorem after1 (c : Dev nD) (t : Fin cfg0.N) : (dats m g 0 c).after 1 t = iblk m c 1 t := by dsimp only [dats]
theorem after2 (c : Dev nD) (t : Fin cfg0.N) : (dats m g 0 c).after 2 t = iblk m c 2 t := by dsimp only [dats]
theorem after3 (c : Dev nD) (t : Fin cfg0.N) : (dats m g 0 c).after 3 t = iblk m c 3 t := by dsimp only [dats]
theorem after4 (c : Dev nD) (t : Fin cfg0.N) : (dats m g 0 c).after 4 t =
    outBox (g t (iblk m c 0 t) (iblk m c 1 t) (iblk m c 2 t) (iblk m c 3 t) 2)
      (g t (iblk m c 0 t) (iblk m c 1 t) (iblk m c 2 t) (iblk m c 3 t) 3) := by dsimp only [dats]
theorem after5 (c : Dev nD) (t : Fin cfg0.N) : (dats m g 0 c).after 5 t =
    outRow (g t (iblk m c 0 t) (iblk m c 1 t) (iblk m c 2 t) (iblk m c 3 t) 0) := by dsimp only [dats]
theorem after6 (c : Dev nD) (t : Fin cfg0.N) : (dats m g 0 c).after 6 t =
    outRow (g t (iblk m c 0 t) (iblk m c 1 t) (iblk m c 2 t) (iblk m c 3 t) 1) := by dsimp only [dats]

theorem before0 (c : Dev nD) (t : Fin cfg0.N) (d) : (dats m g 0 c).before 0 t d = iblk m c 0 t :=
  before0_0_of m (dats m g 0 c) (A_eq m g c 0) (after0 m g c) t d
theorem before1 (c : Dev nD) (t : Fin cfg0.N) (d) : (dats m g 0 c).before 1 t d = iblk m c 1 t :=
  before0_1_of m (dats m g 0 c) (A_eq m g c 1) (after1 m g c) t d
theorem before2 (c : Dev nD) (t : Fin cfg0.N) (d) : (dats m g 0 c).before 2 t d = iblk m c 2 t :=
  before0_2_of m (dats m g 0 c) (A_eq m g c 2) (after2 m g c) t d
theorem before3 (c : Dev nD) (t : Fin cfg0.N) (d) : (dats m g 0 c).before 3 t d = iblk m c 3 t :=
  before0_3_of m (dats m g 0 c) (A_eq m g c 3) (after3 m g c) t d

/-- What the body is called with at a point. -/
def bodyPre (c : Dev nD) (t : Fin cfg0.N) : sProp 𝕄 :=
  iprop((dats m g 0 c).Φ t.castSucc ∗ (dats m g 0 c).owesAt () t.castSucc
    ∗ (∃ d, owns (c : Thread nD τ) (st0_0 t) fullShare ((dats m g 0 c).before 0 t d))
    ∗ (∃ d, owns (c : Thread nD τ) (st0_1 t) fullShare ((dats m g 0 c).before 1 t d))
    ∗ (∃ d, owns (c : Thread nD τ) (st0_2 t) fullShare ((dats m g 0 c).before 2 t d))
    ∗ (∃ d, owns (c : Thread nD τ) (st0_3 t) fullShare ((dats m g 0 c).before 3 t d))
    ∗ (∃ d, owns (c : Thread nD τ) (st0_4 t) fullShare ((dats m g 0 c).before 4 t d))
    ∗ (∃ d, owns (c : Thread nD τ) (st0_5 t) fullShare ((dats m g 0 c).before 5 t d))
    ∗ (∃ d, owns (c : Thread nD τ) (st0_6 t) fullShare ((dats m g 0 c).before 6 t d)))

/-- What the body returns at a point. -/
def bodyPost (c : Dev nD) (t : Fin cfg0.N) : sProp 𝕄 :=
  iprop((dats m g 0 c).Φ t.succ ∗ (dats m g 0 c).owesAt () t.succ
    ∗ owns (c : Thread nD τ) (st0_0 t) fullShare ((dats m g 0 c).after 0 t)
    ∗ owns (c : Thread nD τ) (st0_1 t) fullShare ((dats m g 0 c).after 1 t)
    ∗ owns (c : Thread nD τ) (st0_2 t) fullShare ((dats m g 0 c).after 2 t)
    ∗ owns (c : Thread nD τ) (st0_3 t) fullShare ((dats m g 0 c).after 3 t)
    ∗ owns (c : Thread nD τ) (st0_4 t) fullShare ((dats m g 0 c).after 4 t)
    ∗ owns (c : Thread nD τ) (st0_5 t) fullShare ((dats m g 0 c).after 5 t)
    ∗ owns (c : Thread nD τ) (st0_6 t) fullShare ((dats m g 0 c).after 6 t))

/-- The launched body is the loads-then-stores program with the rows `g`. -/
def Stores : Prop := ∀ t : Fin cfg0.N,
  bodyAt0 (F := F) t = bodyOf (st0_0 t) (st0_1 t) (st0_2 t) (st0_3 t) (st0_4 t) (st0_5 t) (st0_6 t) (g t)

variable {g}

set_option maxHeartbeats 4000000 in
/-- The body at a point, given what it stores. -/
theorem sound_body (hg : Stores g) (c : Dev nD) (t : Fin cfg0.N) :
    bodyPre m g c t ⊢ wp frame (wpE (defs₀ (F := F)) Variants.none c none) Set.univ (bodyAt0 t) (fun _ => bodyPost m g c t) := by
  unfold bodyPre bodyPost
  rw [hg t]
  simp only [before0, before1, before2, before3]
  rw [show (dats m g 0 c).Φ t.succ = (dats m g 0 c).Φ t.castSucc from rfl,
    show (dats m g 0 c).owesAt () t.succ = (dats m g 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_bodyOf c Set.univ _ _ _ _ _ _ _ (g t) (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the launched body. -/
theorem defs₀_row (t : Fin cfg0.N) :
    defs₀ (F := F) .tc cfg0.body (cfg0.bodyArgs t (cfg0.slots t)) = bodyAt0 t := by
  unfold defs₀; rw [Defs.onTc_tc]

/-- The launch's body obligation. -/
theorem body_obligation (hg : Stores g) (c : Dev nD) :
    BodyObligation (dats (F := F) m g 0 c) (defs₀ (F := F)) Variants.none () Set.univ := fun t => by
  rw [bigSep_W0, bigSep_W0, defs₀_row]
  exact triple_restated (sound_body m hg c t) rfl .rfl fun _ => .rfl

set_option backward.isDefEq.respectTransparency.types false in
set_option maxHeartbeats 4000000 in
/-- The whole program from zero counters terminates, with every array at what the launch computes, every other buffer
    as the host operations leave it, and the counters at zero. -/
theorem run_main (hg : Stores g) : θ_run defs (onTc (τ := τ) (main (F := F))) (s₀ m ρ)
    (fun r => (Pipeline.FramePost cfgs (dats m g) 0 (Pipeline.afterTail₀ cfgs (dats m g) 0 (V0 m) [hostOps1])) r
      ∧ r.2.sem = fun _ => 0) :=
  Pipeline.θ_run_frame_around (Q' := _) cfgs (dats m g) (0 : Fin 1) launch0 defs₀ Variants.none m ρ main
    (hbody := fun c => (body_obligation m hg c).loose) (hshare := fun c w => by unfold Dat.share; split <;> rfl)
    (howed := fun _ _ => rfl) (V₀ := V0 m) (opss := [hostOps1]) (hsub := sfx_sub) (hfresh := sfx_fresh) (hkeep := sfx_keeps)
    (hmain := hmain m Variants.none) (hA := A_eq m g) (hΦ := fun _ _ => rfl)

/-- The whole program from zero counters terminates with its two arguments unchanged and the counters at zero. -/
theorem run_frame (hg : Stores g) : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  θ_run_with_sems (frame_of m ρ (dats m g) (A_eq m g))
    (run_main m ρ hg)

/-- The launched body stores some rows. -/
theorem exists_stores : ∃ g : Fin cfg0.N → Rows F, Stores g := by
  have h : ∀ t : Fin cfg0.N, ∃ g : Rows F, bodyAt0 (F := F) t =
      bodyOf (st0_0 t) (st0_1 t) (st0_2 t) (st0_3 t) (st0_4 t) (st0_5 t) (st0_6 t) g := fun t =>
    kernel_body _ _ _ _ _ _ _ _ _ _ _ _ _ _
  choose g hg using h
  exact ⟨g, hg⟩

/-- The frame: the program terminates with its arguments unchanged and the counters at zero. -/
theorem frame : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  obtain ⟨g, hg⟩ := exists_stores (F := F)
  exact run_frame m ρ hg

end Cert.KernelIdeal.Greedy
-- ==== Proof.ReferenceFrame.lean ====
module

public import proofs.«01_k».proof.Proof.Gen.ReferenceIdeal.Run
public import Idealize.ShloMosaic.Lib.Quiescent
public import Idealize.ShloMosaic.PureOps.Ideal

@[expose] public section

set_option maxRecDepth 16384

noncomputable section

namespace Cert.ReferenceIdeal.Greedy

open Idealize.ShloMosaic Idealize.ShloMosaic.TcCoe Idealize.ShloMosaic.Tactic
open Idealize.SL.Sem
open Idealize.ShloMosaic.StableHlo Cert.ReferenceIdeal.Gen Cert.ReferenceIdeal.Value

variable (m : (ℓ : Loc nD τ sig) → Buf (Elt Ideal) ℓ) (ρ : Dev nD → PrngReg)

/-- The loop's trips leave a buffer that neither its condition nor its body writes as they found it. -/
theorem trips_keep (r : Ref sig .tc) (h0 : r ∉ condOps_W) (h1 : r ∉ while0Ops0_W) (h2 : r ∉ while0Ops0_1_W)
    (h3 : r ∉ while0Ops0_2_W) (c : Dev nD) (k : ℕ) :
    atTrip (condOps (F := Ideal)) bodyI (entryContents (preI (F := Ideal)) m) k c (Proc.devRef .tc r) = entryContents (preI (F := Ideal)) m c (Proc.devRef .tc r) := by
  induction k with
  | zero => rfl
  | succ k ih =>
    rw [atTrip]
    simp only [bodyI, afterL_cons, afterL_nil]
    rw [after_of_writes_sub _ _ while0Ops0_2_writes h3, after_of_writes_sub _ _ while0Ops0_1_writes h2,
      after_of_writes_sub _ _ while0Ops0_writes h1, after_of_writes_sub _ _ condOps_writes h0, ih]
    rfl

/-- The buffers the program's last host operations write, in order. -/
abbrev lastRefs : List (Ref sig .tc) :=
  [main_v51, main_v52, main_cst_7, main_v53, main_v54, main_v55, main_v56, main_v57]

theorem last_writes : (hostOps0_14 : List (HloOp τ sig (Elt Ideal))).Forall fun op =>
    op.writes ⊆ (lastRefs.map (Proc.devRef (τ := τ) .tc)).toFinset :=
  forall_writes_sub_of_map rfl

/-- The program's last host operations after the loop's trips. -/
theorem final_eq (c : Dev nD) (b : DevRef τ sig) :
    finalContents (condOps (F := Ideal)) preI bodyI postI 2048 m c b
      = after hostOps0_14 (after (condOps (F := Ideal)) (atTrip (condOps (F := Ideal)) bodyI (entryContents (preI (F := Ideal)) m) 2048 c)) b := rfl

/-- A buffer nothing in the program writes ends as it began. -/
theorem final_keep (r : Ref sig .tc) (h0 : r ∉ condOps_W) (h1 : r ∉ while0Ops0_W) (h2 : r ∉ while0Ops0_1_W)
    (h3 : r ∉ while0Ops0_2_W) (hW : r ∉ lastRefs) (he : ∀ c, entryContents (preI (F := Ideal)) m c (Proc.devRef .tc r) = m (c, Proc.devRef .tc r))
    (c : Dev nD) :
    finalContents (condOps (F := Ideal)) preI bodyI postI 2048 m c (Proc.devRef .tc r) = m (c, Proc.devRef .tc r) := by
  rw [final_eq, after_of_writes_sub _ _ last_writes hW, after_of_writes_sub _ _ condOps_writes h0,
    trips_keep m r h0 h1 h2 h3, he]

/-- What the first argument holds when the loop begins. -/
theorem entry_arg0 (c : Dev nD) : entryContents (preI (F := Ideal)) m c (Proc.devRef .tc main_arg0) = m (c, Proc.devRef .tc main_arg0) := by
  simp only [entryContents, preI, afterL_cons, afterL_nil]
  rw [after_of_writes_sub _ _ hostOps0_13_writes (by decide), after_of_writes_sub _ _ hostOps0_12_writes (by decide),
    after_of_writes_sub _ _ hostOps0_11_writes (by decide), after_of_writes_sub _ _ hostOps0_10_writes (by decide),
    after_of_writes_sub _ _ hostOps0_9_writes (by decide), after_of_writes_sub _ _ hostOps0_8_writes (by decide),
    after_of_writes_sub _ _ hostOps0_7_writes (by decide), after_of_writes_sub _ _ hostOps0_6_writes (by decide),
    after_of_writes_sub _ _ hostOps0_5_writes (by decide), after_of_writes_sub _ _ hostOps0_4_writes (by decide),
    after_of_writes_sub _ _ hostOps0_3_writes (by decide), after_of_writes_sub _ _ hostOps0_2_writes (by decide),
    after_of_writes_sub _ _ hostOps0_1_writes (by decide), after_of_writes_sub _ _ hostOps0_writes (by decide)]

/-- What the second argument holds when the loop begins. -/
theorem entry_arg1 (c : Dev nD) : entryContents (preI (F := Ideal)) m c (Proc.devRef .tc main_arg1) = m (c, Proc.devRef .tc main_arg1) := by
  simp only [entryContents, preI, afterL_cons, afterL_nil]
  rw [after_of_writes_sub _ _ hostOps0_13_writes (by decide), after_of_writes_sub _ _ hostOps0_12_writes (by decide),
    after_of_writes_sub _ _ hostOps0_11_writes (by decide), after_of_writes_sub _ _ hostOps0_10_writes (by decide),
    after_of_writes_sub _ _ hostOps0_9_writes (by decide), after_of_writes_sub _ _ hostOps0_8_writes (by decide),
    after_of_writes_sub _ _ hostOps0_7_writes (by decide), after_of_writes_sub _ _ hostOps0_6_writes (by decide),
    after_of_writes_sub _ _ hostOps0_5_writes (by decide), after_of_writes_sub _ _ hostOps0_4_writes (by decide),
    after_of_writes_sub _ _ hostOps0_3_writes (by decide), after_of_writes_sub _ _ hostOps0_2_writes (by decide),
    after_of_writes_sub _ _ hostOps0_1_writes (by decide), after_of_writes_sub _ _ hostOps0_writes (by decide)]

/-- The reference terminates with its arguments unchanged and the counters at zero. -/
theorem frame : θ_run defs (onTc (τ := τ) (main (F := Ideal))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine (θ_run _ _ _).mono (fun r h => ⟨fun c => ⟨?_, ?_⟩, sem_eq_zero_of_no_sems (by decide) r.2⟩) (run_fold m ρ)
  · rw [h c main_arg0 (by decide)]
    exact final_keep m main_arg0 (by decide) (by decide) (by decide) (by decide) (by decide) (entry_arg0 m) c
  · rw [h c main_arg1 (by decide)]
    exact final_keep m main_arg1 (by decide) (by decide) (by decide) (by decide) (by decide) (entry_arg1 m) c

end Cert.ReferenceIdeal.Greedy
-- ==== Proof.Views.lean ====
module

public import proofs.«01_k».proof.Proof.IdealBody
public import Idealize.ShloMosaic.PureOps.Ideal
public import Idealize.ShloMosaic.PureOps.Ideal.Laws
public import Idealize.ShloMosaic.Lib.Pipeline.Value

@[expose] public section

set_option maxRecDepth 16384

noncomputable section

namespace Cert.KernelIdeal.Greedy

open Idealize.ShloMosaic Idealize.ShloMosaic.TcCoe Idealize.ShloMosaic.Tactic
open Idealize.SL.Sem
open Facts₀ Facts

/-- An element of the ideal instance. -/
local notation "ℝ∞" => Ideal FTy.f32

/-! ### Views of a function on positions -/

/-- A row of `w` lanes: lane `j` holds `g` at `o + j`. -/
def vw {α : Type} (w o : ℕ) (g : ℕ → α) : (⟨2, ![1, w]⟩ : Shape).Idx → α := fun i => g (o + (i 1).val)

/-- A column of 128 rows: row `i` holds `g` at `n + i`. -/
def col {α : Type} (n : ℕ) (g : ℕ → α) : (⟨2, ![128, 1]⟩ : Shape).Idx → α := fun i => g (n + (i 0).val)

/-- A vector of `w` entries: entry `j` holds `g` at `o + j`. -/
def ln {α : Type} (w o : ℕ) (g : ℕ → α) : (⟨1, ![w]⟩ : Shape).Idx → α := fun i => g (o + (i 0).val)

/-- A tile of 128 rows and `w` lanes: at `(i, j)` it holds `f` at `(n + i, o + j)`. -/
def wd {α : Type} (w n o : ℕ) (f : ℕ → ℕ → α) : (⟨2, ![128, w]⟩ : Shape).Idx → α :=
  fun i => f (n + (i 0).val) (o + (i 1).val)

/-- The column repeated along the lanes. -/
def colw {α : Type} (w n : ℕ) (g : ℕ → α) : (⟨2, ![128, w]⟩ : Shape).Idx → α := fun i => g (n + (i 0).val)

/-- The row repeated along the rows. -/
def roww {α : Type} (w o : ℕ) (g : ℕ → α) : (⟨2, ![128, w]⟩ : Shape).Idx → α := fun i => g (o + (i 1).val)

/-- A slice of a row is the row further on. -/
theorem vw_slice {α : Type} (w w' o k : ℕ) (g : ℕ → α) (h) :
    extractStridedSlice ⟨2, ![1, w']⟩ ![0, k] (vw w o g) h = vw w' (o + k) g := by
  funext i; exact congrArg g (Nat.add_assoc o k _).symm

/-- A row of 128 lanes recast as a column. -/
theorem vw_col {α : Type} (o : ℕ) (g : ℕ → α) (h) :
    shapeCast ⟨2, ![128, 1]⟩ (vw 128 o g) h = col o g := by
  funext i
  have e := Shape.rowMajor_reshapeEquiv h i
  rw [Shape.rowMajor_val_two, Shape.rowMajor_val_two] at e
  have h0 := (Shape.reshapeEquiv h i 0).isLt
  have h1 := (i 1).isLt
  change (Shape.reshapeEquiv h i 0).val * 128 + (Shape.reshapeEquiv h i 1).val = (i 0).val * 1 + (i 1).val at e
  change (Shape.reshapeEquiv h i 0).val < 1 at h0
  change (i 1).val < 1 at h1
  exact congrArg (fun x => g (o + x)) (by omega)

/-- A vector recast as a row. -/
theorem ln_row {α : Type} (w o : ℕ) (g : ℕ → α) (h) :
    shapeCast ⟨2, ![1, w]⟩ (ln w o g) h = vw w o g := by
  funext i
  have e := Shape.rowMajor_reshapeEquiv h i
  rw [Shape.rowMajor_val_one, Shape.rowMajor_val_two] at e
  have h0 := (i 0).isLt
  change (Shape.reshapeEquiv h i 0).val = (i 0).val * w + (i 1).val at e
  change (i 0).val < 1 at h0
  have h2 : (i 0).val = 0 := by omega
  rw [h2, Nat.zero_mul, Nat.zero_add] at e
  exact congrArg (fun x => g (o + x)) e

/-- A column broadcast along the lanes. -/
theorem col_wide {α : Type} (w n : ℕ) (g : ℕ → α) (h) :
    broadcastTo ⟨2, ![128, w]⟩ (col n g) h = colw w n g := rfl

/-- A row broadcast along the rows. -/
theorem row_wide {α : Type} (w o : ℕ) (g : ℕ → α) (h) :
    broadcastTo ⟨2, ![128, w]⟩ (vw w o g) h = roww w o g := by
  funext i
  refine congrArg (fun x => g (o + x)) ?_
  have h1 : (i 1).val < w := (i 1).isLt
  dsimp only
  split
  · rename_i h2
    have h2 : w = 1 := h2
    show 0 = (i 1).val
    omega
  · rfl

/-! ### The lanes and what the kernel computes of a pair -/

/-- What the kernel loads, by position: the two ends of each interval, its batch and its score. -/
structure Lanes where
  /-- One end of the interval. -/
  T0 : ℕ → ℝ∞
  /-- The other end. -/
  T1 : ℕ → ℝ∞
  /-- The batch. -/
  B : ℕ → BitVec 32
  /-- The score. -/
  SC : ℕ → ℝ∞

namespace Lanes

variable (d : Lanes)

/-- Zero. -/
def zero : ℝ∞ := FloatOps.ofBits .f32 0x00000000#32
/-- One. -/
def one : ℝ∞ := FloatOps.ofBits .f32 0x3F800000#32
/-- The smaller end. -/
def lo (j : ℕ) : ℝ∞ := FloatOps.minimumf (d.T0 j) (d.T1 j)
/-- The larger end. -/
def hi (j : ℕ) : ℝ∞ := FloatOps.maximumf (d.T0 j) (d.T1 j)
/-- The start in clips. -/
def S (j : ℕ) : ℝ∞ := FloatOps.mulf (d.lo j) (FloatOps.ofBits .f32 0x42800000#32)
/-- The end in clips. -/
def E (j : ℕ) : ℝ∞ := FloatOps.mulf (d.hi j) (FloatOps.ofBits .f32 0x42800000#32)
/-- The length. -/
def L (j : ℕ) : ℝ∞ := FloatOps.subf (d.E j) (d.S j)
/-- Whether the score says the lane holds a candidate. -/
def valid (j : ℕ) : BitVec 1 := FloatOps.cmpf .ogt (d.SC j) (FloatOps.ofBits .f32 0xCCBEBC20#32)
/-- The same as a number. -/
def validf (j : ℕ) : ℝ∞ := FloatOps.sitofp .f32 ((d.valid j).setWidth 32)
/-- The earlier end of two. -/
def mn (i j : ℕ) : ℝ∞ := FloatOps.minimumf (d.E i) (d.E j)
/-- The later start of two. -/
def mx (i j : ℕ) : ℝ∞ := FloatOps.maximumf (d.S i) (d.S j)
/-- Their difference. -/
def df (i j : ℕ) : ℝ∞ := FloatOps.subf (d.mn i j) (d.mx i j)
/-- The length of the intersection. -/
def inter (i j : ℕ) : ℝ∞ := FloatOps.maximumf (d.df i j) zero
/-- The sum of the two lengths. -/
def ls (i j : ℕ) : ℝ∞ := FloatOps.addf (d.L i) (d.L j)
/-- The length of the union. -/
def un0 (i j : ℕ) : ℝ∞ := FloatOps.subf (d.ls i j) (d.inter i j)
/-- The same, kept away from zero. -/
def un (i j : ℕ) : ℝ∞ := FloatOps.maximumf (d.un0 i j) (FloatOps.ofBits .f32 0x358637BD#32)
/-- Half of it. -/
def hun (i j : ℕ) : ℝ∞ := FloatOps.mulf (FloatOps.ofBits .f32 0x3F000000#32) (d.un i j)
/-- Whether the intersection is more than half the union. -/
def big (i j : ℕ) : BitVec 1 := FloatOps.cmpf .ogt (d.inter i j) (d.hun i j)
/-- Whether the batches are the same. -/
def same (i j : ℕ) : BitVec 1 := IntOp.cmpi .eq (d.B i) (d.B j)
/-- Whether the two overlap. -/
def ov (i j : ℕ) : BitVec 1 := IntOp.andi (d.same i j) (d.big i j)

open Classical in
/-- Which lanes are kept after the first `n` of them have been visited: each, if it is itself kept, discards
    the later ones it overlaps. -/
def kp : ℕ → ℕ → Prop
  | 0, j => d.valid j = 1#1
  | n + 1, j => kp n j ∧ ¬ (kp n n ∧ d.ov n j = 1#1 ∧ n < j)

open Classical in
/-- The same as a number. -/
def K (n j : ℕ) : ℝ∞ := if d.kp n j then one else zero

/-- Whether lane `i` is kept after `m` visits. -/
def on (m i : ℕ) : BitVec 1 := FloatOps.cmpf .ogt (d.K m i) zero
/-- Whether lane `i`, kept after `m` visits, overlaps lane `j`. -/
def hit (m i j : ℕ) : BitVec 1 := IntOp.andi (d.ov i j) (d.on m i)
/-- The same as a number. -/
def hitf (m i j : ℕ) : ℝ∞ := Scalar.select (d.hit m i j) one zero
/-- The largest of them over the 128 lanes from `n`. -/
def top (n m j : ℕ) : ℝ∞ :=
  (Finset.univ : Finset (Fin 128)).fold max (FloatOps.ofBits .f32 0xFF800000#32 : ℝ∞) (fun i => d.hitf m (n + i.val) j)
/-- Whether any of the 128 lanes from `n` discards lane `j`. -/
def A (n m j : ℕ) : BitVec 1 := FloatOps.cmpf .ogt (d.top n m j) zero

section ops
variable (w n o m : ℕ)

theorem op_mn : minimumf (colw w n d.E) (roww w o d.E) = wd w n o d.mn := rfl
theorem op_mx : maximumf (colw w n d.S) (roww w o d.S) = wd w n o d.mx := rfl
theorem op_df : subf (wd w n o d.mn) (wd w n o d.mx) = wd w n o d.df := rfl
theorem op_inter : maximumf (wd w n o d.df) (broadcast ⟨2, ![128, w]⟩ (FloatOps.ofBits .f32 0x00000000#32 : ℝ∞)) = wd w n o d.inter := rfl
theorem op_ls : addf (colw w n d.L) (roww w o d.L) = wd w n o d.ls := rfl
theorem op_un0 : subf (wd w n o d.ls) (wd w n o d.inter) = wd w n o d.un0 := rfl
theorem op_un : maximumf (wd w n o d.un0) (broadcast ⟨2, ![128, w]⟩ (FloatOps.ofBits .f32 0x358637BD#32 : ℝ∞)) = wd w n o d.un := rfl
theorem op_hun : mulf (broadcast ⟨2, ![128, w]⟩ (FloatOps.ofBits .f32 0x3F000000#32 : ℝ∞)) (wd w n o d.un) = wd w n o d.hun := rfl
theorem op_big : cmpf .ogt (wd w n o d.inter) (wd w n o d.hun) = wd w n o d.big := rfl
theorem op_same : cmpi .eq (colw w n d.B) (roww w o d.B) = wd w n o d.same := rfl
theorem op_ov : andi (wd w n o d.same) (wd w n o d.big) = wd w n o d.ov := rfl
theorem op_on : cmpf .ogt (col n (d.K m)) (broadcast ⟨2, ![128, 1]⟩ (FloatOps.ofBits .f32 0x00000000#32 : ℝ∞)) = col n (d.on m) := rfl
theorem op_hit : andi (wd w n o d.ov) (colw w n (d.on m)) = wd w n o (d.hit m) := rfl
theorem op_hitf : select (wd w n o (d.hit m)) (broadcast ⟨2, ![128, w]⟩ (FloatOps.ofBits .f32 0x3F800000#32 : ℝ∞))
    (broadcast ⟨2, ![128, w]⟩ (FloatOps.ofBits .f32 0x00000000#32 : ℝ∞)) = wd w n o (d.hitf m) := rfl

theorem op_top (h : (⟨2, ![128, w]⟩ : Shape).Reduces [0] ⟨1, ![w]⟩) (hφ : FKind.Formats .f32) (hacc : (0xFF800000#32 : BitVec 32) = 0xFF800000#32) :
    multiReduction (F := Ideal) (φ := .f32) .maximumf [0] ⟨1, ![w]⟩ (wd w n o (d.hitf m)) 0xFF800000#32 h hφ hacc
      = ln w o (d.top n m) := by
  funext j
  exact Ideal.multiReduction_maximumf_single (φ := .f32) _ _ h hφ hacc j

theorem op_A : cmpf .ogt (ln w o (d.top n m)) (broadcast ⟨1, ![w]⟩ (FloatOps.ofBits .f32 0x00000000#32 : ℝ∞)) = ln w o (d.A n m) := rfl

theorem op_lo : minimumf (vw w o d.T0) (vw w o d.T1) = vw w o d.lo := rfl
theorem op_hi : maximumf (vw w o d.T0) (vw w o d.T1) = vw w o d.hi := rfl
theorem op_S : mulf (vw w o d.lo) (broadcast ⟨2, ![1, w]⟩ (FloatOps.ofBits .f32 0x42800000#32 : ℝ∞)) = vw w o d.S := rfl
theorem op_E : mulf (vw w o d.hi) (broadcast ⟨2, ![1, w]⟩ (FloatOps.ofBits .f32 0x42800000#32 : ℝ∞)) = vw w o d.E := rfl
theorem op_L : subf (vw w o d.E) (vw w o d.S) = vw w o d.L := rfl
theorem op_valid : cmpf .ogt (vw w o d.SC) (broadcast ⟨2, ![1, w]⟩ (FloatOps.ofBits .f32 0xCCBEBC20#32 : ℝ∞)) = vw w o d.valid := rfl

end ops

end Lanes

end Cert.KernelIdeal.Greedy

end
-- ==== Proof.Steps.lean ====
module

public import proofs.«01_k».proof.Proof.Views
public import Idealize.ShloMosaic.Lib.WordSum
public import Idealize.ShloMosaic.Lib.IdealHost
public import Idealize.ShloMosaic.Lib.Pointwise.Index

@[expose] public section

set_option maxRecDepth 16384

noncomputable section

namespace Cert.KernelIdeal.Greedy

open Idealize.ShloMosaic Idealize.ShloMosaic.TcCoe Idealize.ShloMosaic.Tactic
open Idealize.SL.Sem
open Facts₀ Facts
open Idealize.ShloMosaic (ix2)

/-- An element of the ideal instance. -/
local notation "ℝ∞" => Ideal FTy.f32

namespace Lanes

variable (d : Lanes)

theorem zero_eq : zero = (0 : EReal) := Ideal.ofBits_zero_f32
theorem one_eq : one = (1 : EReal) := Ideal.ofBits_one_f32
theorem bot_eq : (FloatOps.ofBits (F := Ideal) .f32 0xFF800000#32 : EReal) = ⊥ := by
  show Ideal.ofBits .f32 0xFF800000#32 = ⊥
  simp [Ideal.ofBits, Ideal.ieee]

/-- A comparison flag is set exactly when the order holds. -/
theorem gt_iff (x y : EReal) : FloatOps.cmpf (F := Ideal) (φ := .f32) .ogt x y = 1#1 ↔ y < x := by
  show BitVec.ofBool (decide (y < x)) = 1#1 ↔ _
  by_cases h : y < x <;> simp [h]

theorem andi_iff (x y : BitVec 1) : IntOp.andi x y = 1#1 ↔ x = 1#1 ∧ y = 1#1 := by
  show x &&& y = 1#1 ↔ _
  rcases BitVec.eq_zero_or_eq_one x with rfl | rfl <;> rcases BitVec.eq_zero_or_eq_one y with rfl | rfl <;> decide

theorem K_pos (n j : ℕ) : (0 : EReal) < d.K n j ↔ d.kp n j := by
  unfold K
  split
  · rename_i h; rw [one_eq]; simp [h]
  · rename_i h; rw [zero_eq]; simp [h]

theorem on_iff (m i : ℕ) : d.on m i = 1#1 ↔ d.kp m i := by
  unfold on
  rw [gt_iff, zero_eq, K_pos]

theorem hitf_pos (m i j : ℕ) : (0 : EReal) < d.hitf m i j ↔ d.kp m i ∧ d.ov i j = 1#1 := by
  have : d.hit m i j = 1#1 ↔ d.kp m i ∧ d.ov i j = 1#1 := by
    unfold hit
    rw [andi_iff, on_iff, and_comm]
  rw [← this]
  unfold hitf Scalar.select
  split
  · rename_i h; rw [one_eq]; simpa using h
  · rename_i h; rw [zero_eq]; simpa using h

theorem A_iff (n m j : ℕ) : d.A n m j = 1#1 ↔ ∃ i < 128, d.kp m (n + i) ∧ d.ov (n + i) j = 1#1 := by
  unfold A top
  rw [gt_iff, zero_eq, bot_eq, Finset.lt_fold_max]
  constructor
  · rintro (h | ⟨i, -, h⟩)
    · exact absurd h (by simp)
    · exact ⟨i.val, i.isLt, (d.hitf_pos _ _ _).1 h⟩
  · rintro ⟨i, hi, h⟩
    exact .inr ⟨⟨i, hi⟩, Finset.mem_univ _, (d.hitf_pos _ _ _).2 h⟩

/-- A visited lane is settled. -/
theorem kp_add (j m : ℕ) : d.kp (j + m) j ↔ d.kp j j := by
  induction m with
  | zero => rfl
  | succ m ih =>
    show (d.kp (j + m) j ∧ ¬ (_ ∧ _ ∧ j + m < j)) ↔ _
    rw [ih]
    exact ⟨fun h => h.1, fun h => ⟨h, fun h' => by omega⟩⟩

theorem kp_of_le {n j : ℕ} (h : j ≤ n) : d.kp n j ↔ d.kp j j := by
  obtain ⟨m, rfl⟩ := Nat.exists_eq_add_of_le h
  exact d.kp_add j m

/-- The effect of `m` visits in a row on a lane after them. -/
theorem kp_block (n m j : ℕ) (h : n + m ≤ j) :
    d.kp (n + m) j ↔ d.kp n j ∧ ∀ i < m, ¬ (d.kp (n + i) (n + i) ∧ d.ov (n + i) j = 1#1) := by
  induction m with
  | zero => simp
  | succ m ih =>
    show (d.kp (n + m) j ∧ ¬ (_ ∧ _ ∧ n + m < j)) ↔ _
    rw [ih (by omega)]
    constructor
    · rintro ⟨⟨h1, h2⟩, h3⟩
      refine ⟨h1, fun i hi h4 => ?_⟩
      rcases Nat.lt_succ_iff_lt_or_eq.1 hi with hi | rfl
      · exact h2 i hi h4
      · exact h3 ⟨h4.1, h4.2, by omega⟩
    · rintro ⟨h1, h2⟩
      exact ⟨⟨h1, fun i hi => h2 i (by omega)⟩, fun h4 => h2 m (by omega) ⟨h4.1, h4.2.1⟩⟩

theorem K_congr {n m j : ℕ} (h : d.kp n j ↔ d.kp m j) : d.K n j = d.K m j := by
  unfold K
  by_cases h' : d.kp m j
  · rw [if_pos h', if_pos (h.2 h')]
  · rw [if_neg h', if_neg (mt h.1 h')]

theorem K_of_not {n j : ℕ} (h : ¬ d.kp n j) : d.K n j = zero := if_neg h

/-- Discarding by a whole block at once is visiting its lanes one after the other. -/
theorem next_apply (n j : ℕ) (h : n + 128 ≤ j) :
    Scalar.select (d.A n (n + 128) j) zero (d.K n j) = d.K (n + 128) j := by
  have hA := d.A_iff n (n + 128) j
  have hB := d.kp_block n 128 j h
  unfold Scalar.select
  by_cases hk : d.A n (n + 128) j = 1#1
  · rw [if_pos (by simpa using hk)]
    obtain ⟨i, hi, h1, h2⟩ := hA.1 hk
    exact (d.K_of_not fun h3 => (hB.1 h3).2 i hi ⟨(d.kp_of_le (by omega)).1 h1, h2⟩).symm
  · rw [if_neg (by simpa using hk)]
    exact d.K_congr ⟨fun h1 => hB.2 ⟨h1, fun i hi h2 => hk (hA.2 ⟨i, hi, (d.kp_of_le (by omega)).2 h2.1, h2.2⟩)⟩,
      fun h1 => (hB.1 h1).1⟩

theorem op_next (n m o : ℕ) (hm : n + 128 = m) (ho : m ≤ o) :
    select (vw 128 o (d.A n m)) (broadcast ⟨2, ![1, 128]⟩ (FloatOps.ofBits .f32 0x00000000#32 : ℝ∞)) (vw 128 o (d.K n))
      = vw 128 o (d.K m) := by
  subst hm
  funext i
  exact d.next_apply n _ (by omega)

theorem validf_eq (j : ℕ) : d.validf j = d.K 0 j := by
  have e : d.validf j = ((((d.valid j).setWidth 32).toInt : ℝ) : EReal) := rfl
  have hk : d.kp 0 j ↔ d.valid j = 1#1 := Iff.rfl
  rw [e]
  rcases BitVec.eq_zero_or_eq_one (d.valid j) with h | h
  · rw [d.K_of_not (by rw [hk, h]; decide), zero_eq, h]; simp
  · rw [show d.K 0 j = one from if_pos (hk.2 h), one_eq, h]; simp

theorem op_validf (w o : ℕ) (h) : sitofp (F := Ideal) .f32 (extui 32 (vw w o d.valid) h) = vw w o (d.K 0) :=
  funext fun i => d.validf_eq _

end Lanes

/-! ### One trip of a block's own loop -/

/-- The lane a trip visits, read out of a row of floats. -/
def pick (oh : IVec S1x128 1) (x : FVec Ideal S1x128 .f32) : ℝ∞ :=
  extractAt ![0, 0, 0] (shapeCast S1x1x1 (multiReduction .add [1, 2] S1 (shapeCast S1x1x128 (select oh x (broadcast S1x128 (Scalar.ofBits .f32 0x00000000#32))) shapeCasts_S1x128_S1x1x128) 0x00000000#32 reduces_S1x1x128_S1 (.inl rfl) rfl) shapeCasts_S1_S1x1x1) inpos_S1x1x1_p0_0_0

/-- The lane a trip visits, read out of a row of words. -/
def pickI (oh : IVec S1x128 1) (x : IVec S1x128 32) : BitVec 32 :=
  extractAt ![0, 0, 0] (shapeCast S1x1x1 (multiReductionI .add [1, 2] S1 (shapeCast S1x1x128 (select oh x (broadcast S1x128 0#32)) shapeCasts_S1x128_S1x1x128) 0#32 reduces_S1x1x128_S1 rfl) shapeCasts_S1_S1x1x1) inpos_S1x1x1_p0_0_0

/-- What one trip leaves of a block's keep flags. -/
def trip (v15 : IVec S1x128 32) (s e l : FVec Ideal S1x128 .f32) (b : IVec S1x128 32) (t : BitVec 32)
    (acc : FVec Ideal S1x128 .f32) : FVec Ideal S1x128 .f32 :=
  let oh := cmpi .eq v15 (broadcast S1x128 t)
  let inter := maximumf (subf (minimumf (broadcast S1x128 (pick oh e)) e) (maximumf (broadcast S1x128 (pick oh s)) s)) (broadcast S1x128 (Scalar.ofBits .f32 0x00000000#32))
  let union := maximumf (subf (addf (broadcast S1x128 (Scalar.subf (pick oh e) (pick oh s))) l) inter) (broadcast S1x128 (Scalar.ofBits .f32 0x358637BD#32))
  let mask := andi (andi (cmpi .eq b (broadcast S1x128 (pickI oh b))) (cmpf .ogt inter (mulf (broadcast S1x128 (Scalar.ofBits .f32 0x3F000000#32)) union))) (cmpi .sgt v15 (broadcast S1x128 t))
  select (andi mask (broadcast S1x128 (Scalar.cmpf .ogt (pick oh acc) (Scalar.ofBits .f32 0x00000000#32)))) (broadcast S1x128 (Scalar.ofBits .f32 0x00000000#32)) acc

theorem op_iota (h) : iota .tc S1x128 32 [1] h = vw 128 0 (fun j => BitVec.ofNat 32 j) := by
  funext i
  show BitVec.ofNat 32 (0 * 128 + (i 1).val) = BitVec.ofNat 32 (0 + (i 1).val)
  rw [Nat.zero_mul]

/-- The one-hot row of lane `t`. -/
def hot (t : ℕ) : IVec S1x128 1 := fun i => BitVec.ofBool (decide ((i 1).val = t))

theorem op_hot (t : ℕ) (ht : t < 128) :
    cmpi .eq (vw 128 0 (fun j => BitVec.ofNat 32 j)) (broadcast S1x128 (BitVec.ofNat 32 t)) = hot t := by
  funext i
  show BitVec.ofBool (BitVec.ofNat 32 (0 + (i 1).val) == BitVec.ofNat 32 t) = BitVec.ofBool (decide ((i 1).val = t))
  have hi : (i 1).val < 128 := (i 1).isLt
  congr 1
  rw [Bool.eq_iff_iff]
  simp only [beq_iff_eq, decide_eq_true_eq, Nat.zero_add]
  constructor
  · intro h
    have := congrArg BitVec.toNat h
    simp only [BitVec.toNat_ofNat] at this
    omega
  · intro h; rw [h]

/-- A one-hot sum is the element at the hot lane. -/
theorem sum_hot {M : Type} [AddCommMonoid M] (t n : ℕ) (ht : t < 128) (g : ℕ → M) (h : S1x128.ShapeCasts S1x1x128) :
    ∑ i : S1x1x128.Idx, shapeCast S1x1x128 (select (hot t) (vw 128 n g) (broadcast S1x128 (0 : M))) h i = g (n + t) := by
  show ∑ i : S1x1x128.Idx, (fun y : S1x128.Idx => Scalar.select (hot t y) (vw 128 n g y) (0 : M)) (Shape.reshapeEquiv h i) = _
  rw [Equiv.sum_comp (Shape.reshapeEquiv h) (fun y : S1x128.Idx => Scalar.select (hot t y) (vw 128 n g y) (0 : M)), Finset.sum_eq_single (ix2 (0 : Fin 1) (⟨t, ht⟩ : Fin 128))]
  · show (if BitVec.ofBool (decide (t = t)) = 1 then g (n + t) else 0) = _
    simp
  · intro y _ hy
    have : (y 1).val ≠ t := fun he => hy (by
      funext a
      match a with
      | 0 => exact Fin.ext (by have : (y 0).val < 1 := (y 0).isLt; show (y 0).val = 0; omega)
      | 1 => exact Fin.ext he)
    show (if BitVec.ofBool (decide ((y 1).val = t)) = 1 then _ else (0 : M)) = 0
    simp [this]
  · intro h; exact absurd (Finset.mem_univ _) h

theorem pick_hot (t n : ℕ) (ht : t < 128) (g : ℕ → ℝ∞) : pick (hot t) (vw 128 n g) = g (n + t) := by
  unfold pick
  have e := Ideal.multiReduction_add_total (φ := .f32)
    (shapeCast S1x1x128 (select (hot t) (vw 128 n g) (broadcast S1x128 (Scalar.ofBits .f32 0x00000000#32))) shapeCasts_S1x128_S1x1x128)
    0x00000000#32 reduces_S1x1x128_S1 (fun b => by match b with | 0 => rfl) (.inl rfl) rfl
  refine (e _).trans ?_
  rw [show (Scalar.ofBits .f32 0x00000000#32 : ℝ∞) = (0 : EReal) from Ideal.ofBits_zero_f32]
  exact sum_hot (M := EReal) t n ht g _

theorem pickI_hot (t n : ℕ) (ht : t < 128) (g : ℕ → BitVec 32) : pickI (hot t) (vw 128 n g) = g (n + t) := by
  show reduceFold reduces_S1x1x128_S1 (· + ·) (0#32 : BitVec 32)
    (shapeCast S1x1x128 (select (hot t) (vw 128 n g) (broadcast S1x128 (0 : BitVec 32))) shapeCasts_S1x128_S1x1x128) _ = _
  rw [reduceFold_add_eq_sum, show (0#32 : BitVec 32) = 0 from rfl, zero_add, Finset.filter_true_of_mem]
  · exact sum_hot (M := BitVec 32) t n ht g _
  · intro i _
    funext b
    match b with
    | 0 => exact Subsingleton.elim (α := Fin 1) _ _

theorem Lanes.same_comm (d : Lanes) (i j : ℕ) : d.same i j = d.same j i := by
  show BitVec.ofBool (d.B i == d.B j) = BitVec.ofBool (d.B j == d.B i)
  rw [Bool.beq_comm]

/-- Whether lane `j` comes after lane `t`, by their words. -/
theorem after_iff (t j : ℕ) (ht : t < 128) (hj : j < 128) :
    IntOp.cmpi .sgt (BitVec.ofNat 32 (0 + j)) (BitVec.ofNat 32 t) = 1#1 ↔ t < j := by
  show BitVec.ofBool ((BitVec.ofNat 32 t).slt (BitVec.ofNat 32 (0 + j))) = 1#1 ↔ _
  have h : (BitVec.ofNat 32 t).slt (BitVec.ofNat 32 (0 + j)) = decide (t < j) := by
    rw [BitVec.slt_eq_decide, BitVec.toInt_eq_toNat_cond, BitVec.toInt_eq_toNat_cond, BitVec.toNat_ofNat, BitVec.toNat_ofNat,
      Nat.zero_add, Nat.mod_eq_of_lt (by omega), Nat.mod_eq_of_lt (by omega), if_pos (by omega), if_pos (by omega)]
    congr 1
    exact propext Int.ofNat_lt
  rw [h]
  by_cases h' : t < j <;> simp [h']

/-- A trip visits its lane. -/
theorem trip_step (d : Lanes) (n t : ℕ) (ht : t < 128) :
    trip (vw 128 0 (fun j => BitVec.ofNat 32 j)) (vw 128 n d.S) (vw 128 n d.E) (vw 128 n d.L) (vw 128 n d.B)
      (BitVec.ofNat 32 t) (vw 128 n (d.K (n + t))) = vw 128 n (d.K (n + (t + 1))) := by
  unfold trip
  rw [op_hot t ht]
  dsimp only
  rw [pick_hot t n ht, pick_hot t n ht, pick_hot t n ht, pickI_hot t n ht]
  funext i
  have hj : (i 1).val < 128 := (i 1).isLt
  generalize hjj : (i 1).val = j at hj
  show Scalar.select (IntOp.andi (IntOp.andi (IntOp.andi (d.same (n + (i 1).val) (n + t)) (d.big (n + t) (n + (i 1).val)))
      (IntOp.cmpi .sgt (BitVec.ofNat 32 (0 + (i 1).val)) (BitVec.ofNat 32 t))) (d.on (n + t) (n + t)))
      Lanes.zero (d.K (n + t) (n + (i 1).val)) = d.K (n + (t + 1)) (n + (i 1).val)
  rw [hjj, d.same_comm]
  have hm : IntOp.andi (IntOp.andi (IntOp.andi (d.same (n + t) (n + j)) (d.big (n + t) (n + j)))
      (IntOp.cmpi .sgt (BitVec.ofNat 32 (0 + j)) (BitVec.ofNat 32 t))) (d.on (n + t) (n + t)) = 1#1
      ↔ d.kp (n + t) (n + t) ∧ d.ov (n + t) (n + j) = 1#1 ∧ n + t < n + j := by
    rw [Lanes.andi_iff, Lanes.andi_iff, after_iff t j ht hj, Lanes.on_iff]
    constructor
    · rintro ⟨⟨h1, h2⟩, h3⟩; exact ⟨h3, h1, by omega⟩
    · rintro ⟨h3, h1, h2⟩; exact ⟨⟨h1, by omega⟩, h3⟩
  have hs : d.kp (n + (t + 1)) (n + j) ↔ d.kp (n + t) (n + j) ∧ ¬ (d.kp (n + t) (n + t) ∧ d.ov (n + t) (n + j) = 1#1 ∧ n + t < n + j) := Iff.rfl
  generalize IntOp.andi (IntOp.andi (IntOp.andi (d.same (n + t) (n + j)) (d.big (n + t) (n + j)))
      (IntOp.cmpi .sgt (BitVec.ofNat 32 (0 + j)) (BitVec.ofNat 32 t))) (d.on (n + t) (n + t)) = c at hm
  unfold Scalar.select
  by_cases hc : c = 1#1
  · rw [if_pos (by simpa using hc)]
    exact (d.K_of_not fun h => (hs.1 h).2 (hm.1 hc)).symm
  · rw [if_neg (by simpa using hc)]
    exact d.K_congr ⟨fun h => hs.2 ⟨h, fun h' => hc (hm.2 h')⟩, fun h => (hs.1 h).1⟩

/-- The trips of a block visit its lanes in order. -/
theorem fold_trips (d : Lanes) (n N : ℕ) (hN : N = 128) :
    Scf.fold (fun (k : Fin N) acc => trip (vw 128 0 (fun j => BitVec.ofNat 32 j)) (vw 128 n d.S) (vw 128 n d.E) (vw 128 n d.L)
      (vw 128 n d.B) (Scf.iv 0#32 1#32 k) acc) (vw 128 n (d.K n)) = vw 128 n (d.K (n + 128)) := by
  subst hN
  have iv (k : ℕ) : Scf.iv 0#32 1#32 k = BitVec.ofNat 32 k := by simp [Scf.iv]
  rw [Scf.fold_eq]
  have key : ∀ T ≤ 128, (List.range T).foldl (fun acc k => trip (vw 128 0 (fun j => BitVec.ofNat 32 j)) (vw 128 n d.S)
      (vw 128 n d.E) (vw 128 n d.L) (vw 128 n d.B) (Scf.iv 0#32 1#32 k) acc) (vw 128 n (d.K n)) = vw 128 n (d.K (n + T)) := by
    intro T
    induction T with
    | zero => intro _; rfl
    | succ T ih =>
      intro hT
      rw [List.range_succ, List.foldl_append, ih (by omega), List.foldl_cons, List.foldl_nil, iv]
      exact trip_step d n T (by omega)
  rw [← key 128 le_rfl, ← List.map_coe_finRange_eq_range, List.foldl_map]

/-- A block's loop, before what follows it. -/
theorem loop_bind {β : Type} {l : Scf.Loop 32} {hok : l.OK} (d : Lanes) (n : ℕ) {body : Fin l.trips → FVec Ideal S1x128 .f32 → Prog (TpuEff nD τ sig (Elt Ideal) Λ₀ Proc.tc) (FVec Ideal S1x128 .f32)}
    (hN : l.trips = 128)
    (hb : ∀ k acc, body k acc = .ret (trip (vw 128 0 (fun j => BitVec.ofNat 32 j)) (vw 128 n d.S) (vw 128 n d.E) (vw 128 n d.L)
      (vw 128 n d.B) (Scf.iv 0#32 1#32 k) acc))
    (k : FVec Ideal S1x128 .f32 → Prog (TpuEff nD τ sig (Elt Ideal) Λ₀ Proc.tc) β) :
    (Scf.Loop.for l hok (vw 128 n (d.K n)) body >>= k) = k (vw 128 n (d.K (n + 128))) :=
  (Scf.for_pure_bind _ _ _ _ _ _ _ hb k).trans (congrArg k (fold_trips d n _ hN))

/-- The blocks' keep flags, side by side. -/
theorem concat_blocks (d : Lanes) (xs : List ((s : Shape) × (s.Idx → ℝ∞))) (h)
    (hx : xs = List.ofFn fun k : Fin 16 => (⟨S1x128, vw 128 (128 * k.val) (d.K (128 * k.val + 128))⟩ : (s : Shape) × (s.Idx → ℝ∞))) :
    concatenate S1x2048 1 xs h = vw 2048 0 (d.K 2048) := by
  subst hx
  funext j
  have hj : (j 1).val < 2048 := (j 1).isLt
  have hm : (j 1).val % 128 < 128 := Nat.mod_lt _ (by omega)
  rw [concatenate_ofFn_apply (t := S1x2048) (s₁ := S1x128) (1 : Fin 2) (fun k : Fin 16 => vw 128 (128 * k.val) (d.K (128 * k.val + 128))) h rfl 128 rfl j ⟨(j 1).val / 128, by omega⟩ rfl
    (ix2 (0 : Fin 1) (⟨(j 1).val % 128, hm⟩ : Fin 128)) rfl (fun b hb => by
      match b with
      | 0 =>
        have : (j 0).val < 1 := (j 0).isLt
        show 0 = (j 0).val
        omega
      | 1 => exact absurd rfl hb)]
  show d.K (128 * ((j 1).val / 128) + 128) (128 * ((j 1).val / 128) + (j 1).val % 128) = d.K 2048 (0 + (j 1).val)
  rw [Nat.div_add_mod, Nat.zero_add]
  exact d.K_congr ((d.kp_of_le (by omega)).trans (d.kp_of_le (by omega)).symm)

end Cert.KernelIdeal.Greedy

end
-- ==== Proof.RefLoop.lean ====
module

public import proofs.«01_k».proof.Proof.Steps
public import proofs.«01_k».proof.Proof.ReferenceFrame
public import Idealize.ShloMosaic.Lib.Pointwise.Index
public import Idealize.ShloMosaic.Lib.DynamicIndex
public import Idealize.ShloMosaic.Lib.Pipeline.Value
public import Idealize.ShloMosaic.Lib.StableHlo.Predicate

@[expose] public section

set_option maxRecDepth 16384

noncomputable section

namespace Cert.ReferenceIdeal.Greedy

open Idealize.ShloMosaic Idealize.ShloMosaic.TcCoe Idealize.ShloMosaic.Tactic
open Idealize.SL.Sem
open Idealize.ShloMosaic.StableHlo Cert.ReferenceIdeal.Gen Cert.ReferenceIdeal.Value
open Cert.KernelIdeal.Greedy (Lanes)

/-- The position `j` of a vector. -/
abbrev at1 (j : Fin 2048) : S2048.Idx := ix1 j
/-- The position `(i, j)` of the pair table. -/
abbrev at2 (i j : Fin 2048) : S2048x2048.Idx := ix2 i j

/-- One element cut out of a vector at a run-time position, then spread. -/
theorem cut_one {α : Type} (x : S2048.Idx → α) (st : Fin 1 → ℤ) (n : Fin 2048) (h : st 0 = (n.val : ℤ)) (k : S_.Idx) :
    shapeCast S_ (Host.dynamicSlice S1 x st sliceFits_S2048_S1) shapeCasts_S1_S_ k = x (at1 n) := by
  rw [Host.dynamicSlice_eq_extractStridedSlice S1 x st ![n.val] _ ⟨rfl, by intro a; fin_cases a; exact n.isLt⟩ (by intro a; fin_cases a; exact h)]
  show x _ = x _
  congr 1
  funext a
  fin_cases a
  apply Fin.ext
  show n.val + _ = n.val
  have : (Shape.reshapeEquiv shapeCasts_S1_S_ k 0).val < 1 := (Shape.reshapeEquiv shapeCasts_S1_S_ k 0).isLt
  change n.val + (Shape.reshapeEquiv shapeCasts_S1_S_ k 0).val = n.val
  omega

/-- One row cut out of the pair table at a run-time position. -/
theorem cut_row {α : Type} (x : S2048x2048.Idx → α) (st : Fin 2 → ℤ) (n j : Fin 2048) (h : st 0 = (n.val : ℤ)) (h1 : st 1 = 0) :
    shapeCast S2048 (Host.dynamicSlice S1x2048 x st sliceFits_S2048x2048_S1x2048) shapeCasts_S1x2048_S2048 (at1 j) = x (at2 n j) := by
  rw [Host.dynamicSlice_eq_extractStridedSlice S1x2048 x st ![n.val, 0] _ ⟨rfl, by intro a; fin_cases a; exacts [n.isLt, le_refl _]⟩ (by intro a; fin_cases a; exacts [h, h1])]
  rw [shapeCast_apply _ _ (at1 j) (ix2 0 j) (by rw [Shape.rowMajor_val_one, Shape.rowMajor_val_two]; simp)]
  show x _ = x _
  congr 1
  funext a
  fin_cases a
  · rfl
  · apply Fin.ext
    show 0 + j.val = j.val
    omega

/-- A quotient of a number that is not negative by a positive one exceeds a half exactly when the number exceeds half
    the divisor. -/
theorem half_lt_div (x y : EReal) (hx : 0 ≤ x) (hy : 0 < y) :
    ((1 / 2 : ℝ) : EReal) < Ideal.div x y ↔ ((1 / 2 : ℝ) : EReal) * y < x := by
  unfold Ideal.div
  rw [if_neg hy.ne']
  induction y using EReal.rec with
  | bot => simp at hy
  | top =>
    rw [EReal.inv_top, mul_zero, EReal.coe_mul_top_of_pos (by norm_num)]
    simp
  | coe y =>
    have hy' : 0 < y := by exact_mod_cast hy
    induction x using EReal.rec with
    | bot => simp at hx
    | top =>
      rw [← EReal.coe_inv, EReal.top_mul_coe_of_pos (by positivity), ← EReal.coe_mul]
      exact ⟨fun _ => EReal.coe_lt_top _, fun _ => EReal.coe_lt_top _⟩
    | coe x =>
      rw [← EReal.coe_inv, ← EReal.coe_mul, ← EReal.coe_mul, EReal.coe_lt_coe_iff, EReal.coe_lt_coe_iff,
        ← div_eq_mul_inv, lt_div_iff₀ hy']

theorem half_eq : (FloatOps.ofBits (F := Ideal) .f32 0x3F000000#32 : EReal) = ((1 / 2 : ℝ) : EReal) := by
  show Ideal.ofBits .f32 0x3F000000#32 = _
  simp [Ideal.ofBits, Ideal.ieee, -EReal.coe_mul]
  try norm_num

theorem eps_pos : (0 : EReal) < (FloatOps.ofBits (F := Ideal) .f32 0x358637BD#32 : EReal) := by
  show (0 : EReal) < Ideal.ofBits .f32 0x358637BD#32
  simp [Ideal.ofBits, Ideal.ieee, -EReal.coe_mul]
  try norm_num

variable (d : Lanes)

/-- The reference's overlap score of two lanes. -/
def iou (i j : ℕ) : EReal :=
  Scalar.select (d.same i j) (Ideal.div (max Lanes.zero (d.df i j)) (max (FloatOps.ofBits (F := Ideal) .f32 0x358637BD#32 : EReal) (d.un0 i j))) Lanes.zero

/-- The overlap score exceeds a half exactly when the two lanes overlap. -/
theorem iou_iff (i j : ℕ) :
    FloatOps.cmpf (F := Ideal) (φ := .f32) .ogt (iou d i j) (FloatOps.ofBits .f32 0x3F000000#32) = 1#1 ↔ d.ov i j = 1#1 := by
  rw [Lanes.gt_iff, half_eq]
  show _ ↔ IntOp.andi (d.same i j) (d.big i j) = 1#1
  rw [Lanes.andi_iff]
  unfold iou Scalar.select
  by_cases h : d.same i j = 1#1
  · rw [if_pos (show d.same i j = 1 from h)]
    have hb : d.big i j = 1#1 ↔ d.hun i j < d.inter i j := Lanes.gt_iff _ _
    rw [hb]
    have hi : max Lanes.zero (d.df i j) = d.inter i j := max_comm _ _
    have hu : max (FloatOps.ofBits (F := Ideal) .f32 0x358637BD#32 : EReal) (d.un0 i j) = d.un i j := max_comm _ _
    have hh : d.hun i j = ((1 / 2 : ℝ) : EReal) * d.un i j := by
      show (FloatOps.ofBits (F := Ideal) .f32 0x3F000000#32 : EReal) * d.un i j = _
      rw [half_eq]
    rw [hi, hu, hh]
    have := half_lt_div (d.inter i j) (d.un i j) (by rw [← hi, Lanes.zero_eq]; exact le_max_left _ _)
      (by rw [← hu]; exact lt_of_lt_of_le eps_pos (le_max_left _ _))
    rw [this]
    exact ⟨fun h' => ⟨h, h'⟩, fun h' => h'.2⟩
  · rw [if_neg (show ¬ d.same i j = 1 from h), Lanes.zero_eq]
    constructor
    · intro h'
      exact absurd h' (not_lt.mpr (by exact_mod_cast (by norm_num : (0:ℝ) ≤ 1 / 2)))
    · intro h'
      exact absurd h'.1 h

/-- What the loop carries after `n` trips. -/
structure Carried (V : Valuation τ sig (Elt Ideal)) (n : ℕ) : Prop where
  /-- The table of overlap scores. -/
  score : ∀ i j : Fin 2048, V main_v50_0 (at2 i j) = iou d i.val j.val
  /-- The positions. -/
  pos : ∀ j : Fin 2048, V main_v50_1 (at1 j) = BitVec.ofNat 32 j.val
  /-- The lane to visit next. -/
  next : ∀ k, V main_v50_3 k = BitVec.ofNat 32 n
  /-- The lanes kept. -/
  kept : ∀ j : Fin 2048, V main_v50_4 (at1 j) = 1#1 ↔ d.kp n j.val

/-- One trip visits one lane. -/
theorem carried_step (V : Valuation τ sig (Elt Ideal)) (n : ℕ) (hn : n < 2048) (h : Carried d V n) : Carried d (STEP V) (n + 1) := by
  have ht : (BitVec.ofNat 32 n).toInt = (n : ℤ) := StableHlo.Predicate.toInt_ofNat_small _ (by omega)
  have hz : ∀ k, select (cmpi .slt (V main_v50_3) (constantI S_ 32 0#32)) (addi (id (V main_v50_3)) (constantI S_ 32 2048#32)) (V main_v50_3) k = BitVec.ofNat 32 n := by
    intro k
    have hs : cmpi .slt (V main_v50_3) (constantI S_ 32 0#32) k = 0#1 := by
      show IntOp.cmpi .slt (V main_v50_3 k) 0#32 = 0#1
      rw [h.next]
      show BitVec.ofBool ((BitVec.ofNat 32 n).slt 0#32) = 0#1
      have : ¬ (n : ℤ) < 0 := by omega
      simp [BitVec.slt, ht, this]
    show Scalar.select _ _ _ = _
    rw [hs]
    exact h.next k
  refine ⟨fun i j => ?_, fun j => ?_, fun k => ?_, fun j => ?_⟩
  · rw [STEP_main_v50_0]; exact h.score i j
  · rw [STEP_main_v50_1]; exact h.pos j
  · rw [STEP_main_v50_3]
    show IntOp.addi (V main_v50_3 k) 1#32 = _
    rw [h.next]
    exact (BitVec.ofNat_add n 1).symm
  · rw [STEP_main_v50_4]
    unfold step_main_v50_4 res_main_while0b_v65
    have hgt : IntOp.cmpi .sgt (BitVec.ofNat 32 j.val) (BitVec.ofNat 32 n) = 1#1 ↔ n < j.val := by
      have hj : (BitVec.ofNat 32 j.val).toInt = (j.val : ℤ) := StableHlo.Predicate.toInt_ofNat_small _ (by omega)
      show BitVec.ofBool ((BitVec.ofNat 32 n).slt (BitVec.ofNat 32 j.val)) = 1#1 ↔ _
      by_cases hnj : n < j.val <;> simp [BitVec.slt, ht, hj, hnj]
    change Scalar.select (shapeCast S_ (Host.dynamicSlice S1 (V main_v50_4) _ _) _ _)
      (IntOp.andi (V main_v50_4 (at1 j)) (~~~ (IntOp.andi
        (FloatOps.cmpf (F := Ideal) (φ := .f32) .ogt (shapeCast S2048 (Host.dynamicSlice S1x2048 (V main_v50_0) _ _) _ (at1 j)) (FloatOps.ofBits .f32 0x3F000000#32))
        (IntOp.cmpi .sgt (V main_v50_1 (at1 j)) (V main_v50_3 _))))) (V main_v50_4 (at1 j)) = 1#1 ↔ _
    rw [cut_one _ _ ⟨n, hn⟩, cut_row _ _ ⟨n, hn⟩, h.score, h.pos, h.next]
    · have hnot : ∀ b : BitVec 1, ~~~ b = 1#1 ↔ ¬ b = 1#1 := by decide
      have hsel : ∀ a b e : BitVec 1, Scalar.select a b e = 1#1 ↔ (a = 1#1 ∧ b = 1#1) ∨ (¬ a = 1#1 ∧ e = 1#1) := by decide
      rw [hsel, Lanes.andi_iff, hnot, Lanes.andi_iff, iou_iff, hgt, h.kept, h.kept]
      show _ ↔ d.kp n j.val ∧ ¬ (d.kp n n ∧ d.ov n j.val = 1#1 ∧ n < j.val)
      tauto
    · exact (congrArg BitVec.toInt (hz _)).trans ht
    · rfl
    · exact (congrArg BitVec.toInt (hz _)).trans ht

/-- The trips visit the lanes in order. -/
theorem carried_iterate (V : Valuation τ sig (Elt Ideal)) (h : Carried d V 0) : ∀ n, n ≤ 2048 → Carried d (STEP^[n] V) n
  | 0, _ => h
  | n + 1, hn => by
    rw [Function.iterate_succ_apply']
    exact carried_step d _ n (by omega) (carried_iterate V h n (by omega))

end Cert.ReferenceIdeal.Greedy
-- ==== Proof.Host.lean ====
module

public import proofs.«01_k».proof.Proof.RefLoop
public import Idealize.ShloMosaic.Lib.ReduceAll
public import Idealize.ShloMosaic.Lib.Routing.OpsSet

@[expose] public section

set_option maxRecDepth 16384

noncomputable section

namespace Cert.ReferenceIdeal.Greedy

open Idealize.ShloMosaic Idealize.ShloMosaic.TcCoe Idealize.ShloMosaic.Tactic
open Idealize.SL.Sem
open Idealize.ShloMosaic.StableHlo Cert.ReferenceIdeal.Gen Cert.ReferenceIdeal.Value
open Cert.KernelIdeal.Greedy (Lanes)

/-- The candidates the top-k keeps: every one is a position of the flat score vector. -/
theorem top_pos {α : Type} (gt : α → α → BitVec 1) (x : S65536.Idx → α) (j : Fin 2048) :
    ∃ p : Fin 65536, (Host.topK S2048 0 gt x sliceFits_S65536_S2048).2 (at1 j) = BitVec.ofNat 32 p.val :=
  ⟨_, rfl⟩

/-- The start indices a take hands to the gather: the indices, a negative one counted from the end. -/
def starts (idx : IVec S2048 32) : IVec S2048x1 32 :=
  broadcastInDim S2048x1 ![0] bcast_S2048_S2048x1_0
    (select (cmpi .slt idx (broadcastInDim S2048 ![] bcast_S_S2048 (constantI S_ 32 0#32)))
      (addi idx (broadcastInDim S2048 ![] bcast_S_S2048 (constantI S_ 32 65536#32))) idx)

/-- Which of a take's positions are inside the table. -/
def inside (idx : IVec S2048 32) : IVec S2048 1 :=
  Host.reduce IntOp.andi
    (andi (cmpi .sge (starts idx) (broadcastInDim S2048x1 ![] bcast_S_S2048x1 (constantI S_ 32 0#32)))
      (cmpi .sle (starts idx) (broadcastInDim S2048x1 ![0, 1] bcast_S1x1_S2048x1_0_1
        (broadcastInDim S1x1 ![1] bcast_S1_S1x1_1 (constantI S1 32 65535#32)))))
    (constantI S_ 1 1#1) reducesTo_S2048x1_S2048_d1 h_S_

section take
variable (idx : IVec S2048 32) (P : Fin 2048 → Fin 65536) (hP : ∀ j, idx (at1 j) = BitVec.ofNat 32 (P j).val)
include hP

theorem starts_eq (i : S2048x1.Idx) : starts idx i = BitVec.ofNat 32 (P (i 0)).val := by
  have h0 : starts idx i = Scalar.select (IntOp.cmpi .slt (idx (at1 (i 0))) 0#32) (IntOp.addi (idx (at1 (i 0))) 65536#32) (idx (at1 (i 0))) := by
    unfold starts
    rw [broadcastInDim_apply _ _ _ i (at1 (i 0)) (by intro a; fin_cases a; rfl)]
    rfl
  obtain ⟨j, k, rfl⟩ : ∃ (j : Fin 2048) (k : Fin 1), i = ix2 j k := ⟨i 0, i 1, eq_ix2 i⟩
  change starts idx (ix2 j k) = BitVec.ofNat 32 (P j).val
  refine h0.trans ?_
  show Scalar.select (IntOp.cmpi .slt (idx (at1 j)) 0#32) (IntOp.addi (idx (at1 j)) 65536#32) (idx (at1 j)) = _
  rw [hP]
  have ht : (BitVec.ofNat 32 (P j).val).toInt = ((P j).val : ℤ) := StableHlo.Predicate.toInt_ofNat_small _ (by omega)
  have : ¬ ((P j).val : ℤ) < 0 := by omega
  have hs : IntOp.cmpi .slt (BitVec.ofNat 32 (P j).val) 0#32 = 0#1 := by
    show BitVec.ofBool ((BitVec.ofNat 32 (P j).val).slt 0#32) = 0#1
    simp [BitVec.slt, ht, this]
  rw [hs]
  rfl

theorem inside_eq (j : Fin 2048) : inside idx (at1 j) = 1#1 := by
  refine Host.reduce_andi_one _ _ _ _ _ rfl fun i => ?_
  have ht : (BitVec.ofNat 32 (P (i 0)).val).toInt = ((P (i 0)).val : ℤ) := StableHlo.Predicate.toInt_ofNat_small _ (by omega)
  show IntOp.andi (IntOp.cmpi .sge (starts idx i) 0#32) (IntOp.cmpi .sle (starts idx i) 65535#32) = 1#1
  rw [starts_eq idx P hP, Lanes.andi_iff]
  have h1 : ((P (i 0)).val : ℤ) ≤ 65535 := by have := (P (i 0)).isLt; omega
  constructor
  · show BitVec.ofBool ((0#32).sle (BitVec.ofNat 32 (P (i 0)).val)) = 1#1
    simp [BitVec.sle, ht]
  · show BitVec.ofBool ((BitVec.ofNat 32 (P (i 0)).val).sle 65535#32) = 1#1
    have h2 : (65535#32).toInt = 65535 := by decide
    simp [BitVec.sle, ht, h2, h1]

/-- A take from a vector reads the vector at the indices. -/
theorem take_vec {α : Type} (g : GatherDims S65536 S2048x1 S2048) (hcoll : g.collapsedSliceDims = [0]) (hob : g.operandBatchingDims = [])
    (hsim : g.startIndexMap = [0]) (hivd : g.indexVectorDim = 1) (x : S65536.Idx → α) (fill : S2048.Idx → α) (j : Fin 2048) :
    select (inside idx) (Host.gather g x (starts idx)) fill (at1 j) = x (ix1 (P j)) := by
  show Scalar.select (inside idx (at1 j)) (Host.gather g x (starts idx) (at1 j)) _ = _
  rw [inside_eq idx P hP]
  exact Routing.gather_take1 g hcoll hob hsim hivd x (starts idx) j (P j) (starts_eq idx P hP (ix2 j 0)) (by norm_num)

/-- A take from the rows of a table reads the rows at the indices. -/
theorem take_rows {α : Type} (g : GatherDims S65536x2 S2048x1 S2048x2) (hoff : g.offsetDims = [1]) (hcoll : g.collapsedSliceDims = [0])
    (hob : g.operandBatchingDims = []) (hsim : g.startIndexMap = [0]) (hivd : g.indexVectorDim = 1)
    (x : S65536x2.Idx → α) (fill : S2048x2.Idx → α) (j : Fin 2048) (k : Fin 2) :
    select (broadcastInDim S2048x2 ![0] bcast_S2048_S2048x2_0 (inside idx)) (Host.gather g x (starts idx)) fill (ix2 j k)
      = x (ix2 (P j) k) := by
  show Scalar.select (broadcastInDim S2048x2 ![0] bcast_S2048_S2048x2_0 (inside idx) (ix2 j k)) (Host.gather g x (starts idx) (ix2 j k)) _ = _
  rw [broadcastInDim_apply _ _ _ (ix2 j k) (at1 j) (by intro a; fin_cases a; rfl), inside_eq idx P hP]
  exact Routing.gather_row g hoff hcoll hob hsim hivd x (starts idx) j k (P j) (starts_eq idx P hP (ix2 j 0)) (by norm_num)

end take

/-- The flat scores, those that are not positive replaced by a large negative number. -/
def flat (x0 : Vec Ideal S16x64x64 .f32) : Vec Ideal S65536 .f32 := fun i =>
  Scalar.select (FloatOps.cmpf (F := Ideal) (φ := .f32) .ogt (shapeCast S65536 x0 (by decide) i) (FloatOps.ofBits (F := Ideal) .f32 0x00000000#32))
    (shapeCast S65536 x0 (by decide) i) (FloatOps.ofBits (F := Ideal) .f32 0xCE6E6B28#32)

/-- The candidates: the 2048 largest of the flat scores, with their positions. -/
def top (x0 : Vec Ideal S16x64x64 .f32) : Vec Ideal S2048 .f32 × IVec S2048 32 :=
  Host.topK S2048 0 (FloatOps.cmpfTotal (F := Ideal) (φ := .f32) .gt) (flat x0) sliceFits_S65536_S2048

/-- The position of candidate `j`. -/
def posOf (x0 : Vec Ideal S16x64x64 .f32) (j : Fin 2048) : Fin 65536 :=
  (top_pos (FloatOps.cmpfTotal (F := Ideal) (φ := .f32) .gt) (flat x0) j).choose

theorem posOf_spec (x0 : Vec Ideal S16x64x64 .f32) (j : Fin 2048) : (top x0).2 (at1 j) = BitVec.ofNat 32 (posOf x0 j).val :=
  (top_pos (FloatOps.cmpfTotal (F := Ideal) (φ := .f32) .gt) (flat x0) j).choose_spec

/-- End `k` of the interval at flat position `p`. -/
def endOf (x1 : Vec Ideal S16x2x64x64 .f32) (k : Fin 2) (p : Fin 65536) : EReal :=
  x1 (ix4 ⟨p.val / 4096, by omega⟩ k ⟨p.val % 4096 / 64, by omega⟩ ⟨p.val % 64, by omega⟩)

/-- The lane number `j` as a position of a vector. -/
def lane (j : ℕ) : Fin 2048 := ⟨j % 2048, by omega⟩

/-- The candidates of the two arguments, as lanes. -/
def cand (x0 : Vec Ideal S16x64x64 .f32) (x1 : Vec Ideal S16x2x64x64 .f32) : Lanes where
  T0 j := endOf x1 0 (posOf x0 (lane j))
  T1 j := endOf x1 1 (posOf x0 (lane j))
  B j := BitVec.ofNat 32 ((posOf x0 (lane j)).val / 4096)
  SC j := (top x0).1 (at1 (lane j))

/-- A batch number is a flat position over the positions in a batch. -/
theorem floor_div (p : ℕ) (hp : p < 65536) :
    Scalar.select
      (IntOp.andi
        (IntOp.cmpi .ne (if BitVec.ofNat 32 p = 0 then (0 : BitVec 32) else if (BitVec.ofNat 32 p).msb then -1 else 1)
          (if 4096#32 = 0 then (0 : BitVec 32) else if (4096#32).msb then -1 else 1))
        (IntOp.cmpi .ne (IntOp.remsi .host (BitVec.ofNat 32 p) 4096#32) 0#32))
      (IntOp.subi (IntOp.divsi .host (BitVec.ofNat 32 p) 4096#32) 1#32) (IntOp.divsi .host (BitVec.ofNat 32 p) 4096#32)
      = BitVec.ofNat 32 (p / 4096) := by
  have hm : (BitVec.ofNat 32 p).msb = false := by
    rw [BitVec.msb_eq_false_iff_two_mul_lt]; simp; omega
  have hd : IntOp.divsi .host (BitVec.ofNat 32 p) 4096#32 = BitVec.ofNat 32 (p / 4096) := by
    have : ¬ IntOp.SDivCorner (BitVec.ofNat 32 p) 4096#32 := by simp [IntOp.SDivCorner]
    have hm2 : (4096#32).msb = false := by decide
    rw [IntOp.divsi, if_neg this, BitVec.sdiv_eq, hm, hm2]
    apply BitVec.eq_of_toNat_eq
    simp
    omega
  rw [hd]
  by_cases h0 : p = 0
  · subst h0
    have hr : IntOp.remsi .host (BitVec.ofNat 32 0) 4096#32 = 0#32 := by
      have : ¬ IntOp.SDivCorner (BitVec.ofNat 32 0) 4096#32 := by simp [IntOp.SDivCorner]
      rw [IntOp.remsi, if_neg this]; decide
    rw [hr]; decide
  · have hne : ¬ BitVec.ofNat 32 p = 0 := by
      intro h
      have := congrArg BitVec.toNat h
      simp at this
      omega
    rw [if_neg hne, hm]
    have : IntOp.cmpi .ne (if false = true then (-1 : BitVec 32) else 1) (if 4096#32 = 0 then (0 : BitVec 32) else if (4096#32).msb then -1 else 1) = 0#1 := by decide
    rw [this]
    have hz : ∀ b : BitVec 1, IntOp.andi 0#1 b = 0#1 := by decide
    rw [hz]
    rfl

/-- Where a stable sort of two elements puts them. -/
theorem sorted_two : ∀ (before : Fin 2 → Fin 2 → Bool) (k : Fin 2), sortedFrom before k = if before 1 0 then 1 - k else k := by
  decide

/-- The reference's order of two interval ends is the order of the extended reals. -/
theorem order_iff (l r : EReal) : comparator_f32_d1 (F := Ideal) l r = 1#1 ↔ l < r := by
  have hs : ∀ x : EReal, Scalar.select (Ideal.cmp .une x x) (FloatOps.ofBits (F := Ideal) .f32 0x7FC00000#32 : EReal)
      (Scalar.select (Ideal.cmp .oeq x Lanes.zero) Lanes.zero x) = x := by
    intro x
    have h1 : Ideal.cmp .une x x = 0#1 := by simp [Ideal.cmp]
    rw [h1]
    show Scalar.select (Ideal.cmp .oeq x Lanes.zero) Lanes.zero x = x
    by_cases h : x = Lanes.zero
    · subst h
      unfold Scalar.select
      split <;> rfl
    · have h2 : Ideal.cmp .oeq x Lanes.zero = 0#1 := by simp [Ideal.cmp, h]
      rw [h2]
      rfl
  show Ideal.cmpTotal .lt (Scalar.select (Ideal.cmp .une l l) _ (Scalar.select (Ideal.cmp .oeq l Lanes.zero) Lanes.zero l))
    (Scalar.select (Ideal.cmp .une r r) _ (Scalar.select (Ideal.cmp .oeq r Lanes.zero) Lanes.zero r)) = 1#1 ↔ _
  rw [hs, hs]
  show BitVec.ofBool (decide (l < r)) = 1#1 ↔ _
  by_cases h : l < r <;> simp [h]

/-- The sort of the two ends of every interval: position 0 holds the smaller, position 1 the larger. -/
theorem sort_ends (x : S16x2x64x64.Idx → EReal) (b : Fin 16) (h w : Fin 64) :
    Host.sort S16x2x64x64 1 (comparator_f32_d1 (F := Ideal)) x (ix4 b 0 h w) = min (x (ix4 b 0 h w)) (x (ix4 b 1 h w)) ∧
    Host.sort S16x2x64x64 1 (comparator_f32_d1 (F := Ideal)) x (ix4 b 1 h w) = max (x (ix4 b 0 h w)) (x (ix4 b 1 h w)) := by
  have ha : ∀ k k' : Fin 2, Shape.Idx.along (s := S16x2x64x64) (ix4 b k h w) 1 k' = ix4 b k' h w := by
    intro k k'
    funext a
    unfold Shape.Idx.along
    fin_cases a <;> rfl
  have hv : ∀ k : Fin 2, Host.sort S16x2x64x64 1 (comparator_f32_d1 (F := Ideal)) x (ix4 b k h w)
      = x (ix4 b (if x (ix4 b 1 h w) < x (ix4 b 0 h w) then 1 - k else k) h w) := by
    intro k
    unfold Host.sort
    rw [dif_pos (by decide)]
    show x (Shape.Idx.along (s := S16x2x64x64) (ix4 b k h w) 1 (sortedFrom (n := 2) (fun k₁ k₂ =>
      comparator_f32_d1 (F := Ideal) (x (Shape.Idx.along (s := S16x2x64x64) (ix4 b k h w) 1 k₁)) (x (Shape.Idx.along (s := S16x2x64x64) (ix4 b k h w) 1 k₂)) == 1#1) k)) = _
    rw [sorted_two, ha, ha, ha]
    congr 2
    by_cases hl : x (ix4 b 1 h w) < x (ix4 b 0 h w)
    · rw [if_pos hl, if_pos (by rw [beq_iff_eq]; exact (order_iff _ _).mpr hl)]
    · rw [if_neg hl, if_neg (by rw [beq_iff_eq]; exact fun h' => hl ((order_iff _ _).mp h'))]
  rw [hv, hv]
  by_cases hl : x (ix4 b 1 h w) < x (ix4 b 0 h w)
  · rw [if_pos hl, if_pos hl]
    exact ⟨(min_eq_right hl.le).symm, (max_eq_left hl.le).symm⟩
  · rw [if_neg hl, if_neg hl]
    exact ⟨(min_eq_left (not_lt.mp hl)).symm, (max_eq_right (not_lt.mp hl)).symm⟩

end Cert.ReferenceIdeal.Greedy
-- ==== Proof.RefPrefix.lean ====
module

public import proofs.«01_k».proof.Proof.Host

@[expose] public section

set_option maxRecDepth 16384

noncomputable section

namespace Cert.ReferenceIdeal.Greedy

open Idealize.ShloMosaic Idealize.ShloMosaic.TcCoe Idealize.ShloMosaic.Tactic
open Idealize.SL.Sem
open Idealize.ShloMosaic.StableHlo Cert.ReferenceIdeal.Gen Cert.ReferenceIdeal.Value
open Cert.KernelIdeal.Greedy (Lanes)

/-- A vector spread along the rows of the pair table. -/
abbrev colOf {α : Type} (x : S2048.Idx → α) : S2048x2048.Idx → α :=
  broadcastInDim S2048x2048 ![0, 1] bcast_S2048x1_S2048x2048_0_1 (broadcastInDim S2048x1 ![0] bcast_S2048_S2048x1_0 x)
/-- A vector spread along the columns of the pair table. -/
abbrev rowOf {α : Type} (x : S2048.Idx → α) : S2048x2048.Idx → α :=
  broadcastInDim S2048x2048 ![0, 1] bcast_S1x2048_S2048x2048_0_1 (broadcastInDim S1x2048 ![1] bcast_S2048_S1x2048_1 x)

theorem colOf_at {α : Type} (x : S2048.Idx → α) (i j : Fin 2048) : colOf x (at2 i j) = x (at1 i) := by
  unfold colOf
  rw [broadcastInDim_apply _ _ _ (at2 i j) (ix2 i (0 : Fin 1)) (by intro a; fin_cases a <;> rfl),
    broadcastInDim_apply _ _ _ (ix2 i (0 : Fin 1)) (at1 i) (by intro a; fin_cases a; rfl)]

theorem rowOf_at {α : Type} (x : S2048.Idx → α) (i j : Fin 2048) : rowOf x (at2 i j) = x (at1 j) := by
  unfold rowOf
  rw [broadcastInDim_apply _ _ _ (at2 i j) (ix2 (0 : Fin 1) j) (by intro a; fin_cases a <;> rfl),
    broadcastInDim_apply _ _ _ (ix2 (0 : Fin 1) j) (at1 j) (by intro a; fin_cases a; rfl)]

/-- One column of a table of pairs. -/
theorem column_at {α : Type} (x : S2048x2.Idx → α) (off : Fin 2 → ℕ) (k : Fin 2) (h0 : off 0 = 0) (h1 : off 1 = k.val)
    (hs : S2048x2.Slices off S2048x1) (j : Fin 2048) :
    shapeCast S2048 (extractStridedSlice S2048x1 off x hs) shapeCasts_S2048x1_S2048 (at1 j) = x (ix2 j k) := by
  rw [shapeCast_apply _ _ (at1 j) (ix2 j (0 : Fin 1)) (by rw [Shape.rowMajor_val_one, Shape.rowMajor_val_two]; simp)]
  rw [extractStridedSlice_apply off x hs (ix2 j (0 : Fin 1)) (ix2 j k) (by intro a; fin_cases a <;> simp [h0, h1])]

variable (W : Valuation τ sig (Elt Ideal))

section stages
set_option maxHeartbeats 2000000

/-- The starts. -/
theorem s7_start : after (hostOps0_7 (F := Ideal)) W main_v17
    = shapeCast S2048 (extractStridedSlice S2048x1 ![0, 0] (W main_v14) slices_S2048x2_S2048x1_0_0) shapeCasts_S2048x1_S2048 := by
  after_results
  rfl

/-- The ends. -/
theorem s7_end : after (hostOps0_7 (F := Ideal)) W main_v19
    = shapeCast S2048 (extractStridedSlice S2048x1 ![0, 1] (W main_v14) slices_S2048x2_S2048x1_0_1) shapeCasts_S2048x1_S2048 := by
  after_results
  rfl

/-- The overlaps of the pairs, not yet cut at zero. -/
theorem s7_df : after (hostOps0_7 (F := Ideal)) W main_v30 = subf (F := Ideal) (φ := .f32)
    (minimumf (colOf (after (hostOps0_7 (F := Ideal)) W main_v19)) (rowOf (after (hostOps0_7 (F := Ideal)) W main_v19)))
    (maximumf (colOf (after (hostOps0_7 (F := Ideal)) W main_v17)) (rowOf (after (hostOps0_7 (F := Ideal)) W main_v17))) := by
  rw [s7_start, s7_end]
  after_results
  rfl

theorem s7_zero : after (hostOps0_7 (F := Ideal)) W main_cst_2 = constant (F := Ideal) S_ .f32 0x00000000#32 := by
  after_results

theorem s8 : after (hostOps0_8 (F := Ideal)) W main_v31
    = maximumf (F := Ideal) (φ := .f32) (broadcastInDim S2048x2048 ![] bcast_S_S2048x2048 (W main_cst_2)) (W main_v30) := by
  after_results
  rfl

theorem s9_un : after (hostOps0_9 (F := Ideal)) W main_v38 = subf (F := Ideal) (φ := .f32)
    (addf (colOf (subf (F := Ideal) (φ := .f32) (W main_v19) (W main_v17))) (rowOf (subf (F := Ideal) (φ := .f32) (W main_v19) (W main_v17)))) (W main_v31) := by
  after_results

theorem s9_eps : after (hostOps0_9 (F := Ideal)) W main_cst_3 = constant (F := Ideal) S_ .f32 0x358637BD#32 := by
  after_results

theorem s10 : after (hostOps0_10 (F := Ideal)) W main_v39
    = maximumf (F := Ideal) (φ := .f32) (broadcastInDim S2048x2048 ![] bcast_S_S2048x2048 (W main_cst_3)) (W main_v38) := by
  after_results
  rfl

theorem s11_div : after (hostOps0_11 (F := Ideal)) W main_v40 = Host.divf (F := Ideal) (φ := .f32) (W main_v31) (W main_v39) := by
  after_results

theorem s11_same : after (hostOps0_11 (F := Ideal)) W main_v45 = cmpi .eq (colOf (W main_v15)) (rowOf (W main_v15)) := by
  after_results

theorem s11_zero : after (hostOps0_11 (F := Ideal)) W main_cst_4 = constant (F := Ideal) S_ .f32 0x00000000#32 := by
  after_results

theorem s12 : after (hostOps0_12 (F := Ideal)) W main_v46
    = select (W main_v45) (W main_v40) (broadcastInDim S2048x2048 ![] bcast_S_S2048x2048 (W main_cst_4)) := by
  after_results
  rfl

theorem s13_score : after (hostOps0_13 (F := Ideal)) W main_v50_0 = W main_v46 := by
  after_results
  rfl

theorem s13_pos : after (hostOps0_13 (F := Ideal)) W main_v50_1 = iotaInDim S2048 32 0 := by
  after_results
  rfl

theorem s13_next : after (hostOps0_13 (F := Ideal)) W main_v50_3 = constantI S_ 32 0#32 := by
  after_results
  rfl

theorem s13_keep : after (hostOps0_13 (F := Ideal)) W main_v50_4
    = cmpf (F := Ideal) (φ := .f32) .ogt (W main_values) (broadcastInDim S2048 ![] bcast_S_S2048 (constant (F := Ideal) S_ .f32 0xCCBEBC20#32)) := by
  after_results
  rfl

/-- The take of the ends. -/
theorem s5 : after (hostOps0_5 (F := Ideal)) W main_v14 =
    select (broadcastInDim S2048x2 ![0] bcast_S2048_S2048x2_0 (inside (W main_indices)))
      (Host.gather gather_S65536x2_S2048x1_S2048x2_1_0_n_n_0_1_12 (W main_v10) (starts (W main_indices)))
      (broadcastInDim S2048x2 ![] bcast_S_S2048x2 (constant (F := Ideal) S_ .f32 0x7FC00000#32)) := by
  after_results
  rfl

/-- The take of the batches. -/
theorem s6 : after (hostOps0_6 (F := Ideal)) W main_v15 =
    select (inside (W main_indices)) (Host.gather gather_S65536_S2048x1_S2048_n_0_n_n_0_1_1 (W main_v13) (starts (W main_indices)))
      (broadcastInDim S2048 ![] bcast_S_S2048 (constantI S_ 32 2147483648#32)) := by
  after_results
  rfl

theorem s4_values : after (hostOps0_4 (F := Ideal)) W main_values
    = (Host.topK S2048 0 (FloatOps.cmpfTotal (F := Ideal) (φ := .f32) .gt) (shapeCast S65536 (W main_v8) shapeCasts_S16x4096_S65536) sliceFits_S65536_S2048).1 := by
  after_results
  rfl

theorem s4_indices : after (hostOps0_4 (F := Ideal)) W main_indices
    = (Host.topK S2048 0 (FloatOps.cmpfTotal (F := Ideal) (φ := .f32) .gt) (shapeCast S65536 (W main_v8) shapeCasts_S16x4096_S65536) sliceFits_S65536_S2048).2 := by
  after_results
  rfl

theorem s4_ends : after (hostOps0_4 (F := Ideal)) W main_v10 = shapeCast S65536x2 (W main_v5) shapeCasts_S16x4096x2_S65536x2 := by
  after_results
  rfl

theorem s4_batch : after (hostOps0_4 (F := Ideal)) W main_v13
    = shapeCast S65536 (broadcastInDim S16x4096 ![0] bcast_S16_S16x4096_0 (iotaInDim S16 32 0)) shapeCasts_S16x4096_S65536 := by
  after_results
  rfl

/-- The first four stages. -/
abbrev head4 : Valuation τ sig (Elt Ideal) := after hostOps0_3 (after hostOps0_2 (after hostOps0_1 (after hostOps0 W)))

theorem s0_score : head4 W main_v8 = select (cmpf (F := Ideal) (φ := .f32) .ogt (shapeCast S16x4096 (W main_arg0) shapeCasts_S16x64x64_S16x4096)
      (broadcastInDim S16x4096 ![] bcast_S_S16x4096 (constant (F := Ideal) S_ .f32 0x00000000#32)))
    (shapeCast S16x4096 (W main_arg0) shapeCasts_S16x64x64_S16x4096)
    (broadcastInDim S16x4096 ![] bcast_S_S16x4096 (constant (F := Ideal) S_ .f32 0xCE6E6B28#32)) := by
  after_results
  rfl

theorem s0_ends : head4 W main_v5 = mulf (F := Ideal) (φ := .f32)
    (transpose S16x4096x2 [0, 2, 1] (shapeCast S16x2x4096 (Host.sort S16x2x64x64 1 comparator_f32_d1 (W main_arg1)) shapeCasts_S16x2x64x64_S16x2x4096)
      transposes_S16x2x4096_S16x4096x2_0_2_1)
    (broadcastInDim S16x4096x2 ![] bcast_S_S16x4096x2 (constant (F := Ideal) S_ .f32 0x42800000#32)) := by
  after_results
  rfl

end stages

end Cert.ReferenceIdeal.Greedy
-- ==== Proof.RefCand.lean ====
module

public import proofs.«01_k».proof.Proof.RefPrefix
public import Idealize.ShloMosaic.Lib.Pointwise.Reshape

@[expose] public section

set_option maxRecDepth 16384

noncomputable section

namespace Cert.ReferenceIdeal.Greedy

open Idealize.ShloMosaic Idealize.ShloMosaic.TcCoe Idealize.ShloMosaic.Tactic
open Idealize.SL.Sem
open Idealize.ShloMosaic.StableHlo Cert.ReferenceIdeal.Gen Cert.ReferenceIdeal.Value
open Cert.KernelIdeal.Greedy (Lanes)

variable (W : Valuation τ sig (Elt Ideal)) (d : Lanes)

/-- What the stages that build the pair table start from: the candidates `d`. -/
structure Ready : Prop where
  /-- The scores. -/
  score : ∀ j : Fin 2048, W main_values (at1 j) = d.SC j.val
  /-- The starts. -/
  start : ∀ j : Fin 2048, W main_v14 (ix2 j 0) = d.S j.val
  /-- The ends. -/
  stop : ∀ j : Fin 2048, W main_v14 (ix2 j 1) = d.E j.val
  /-- The batches. -/
  batch : ∀ j : Fin 2048, W main_v15 (at1 j) = d.B j.val

/-- The stages from the pair table to the loop. -/
abbrev table : Valuation τ sig (Elt Ideal) :=
  after hostOps0_13 (after hostOps0_12 (after hostOps0_11 (after hostOps0_10 (after hostOps0_9 (after hostOps0_8 (after hostOps0_7 W))))))

theorem table_values : table W main_values = W main_values := by
  unfold table
  rw [after_of_writes_sub _ _ hostOps0_13_writes (by decide), after_of_writes_sub _ _ hostOps0_12_writes (by decide),
    after_of_writes_sub _ _ hostOps0_11_writes (by decide), after_of_writes_sub _ _ hostOps0_10_writes (by decide),
    after_of_writes_sub _ _ hostOps0_9_writes (by decide), after_of_writes_sub _ _ hostOps0_8_writes (by decide),
    after_of_writes_sub _ _ hostOps0_7_writes (by decide)]

theorem table_ends : table W main_v14 = W main_v14 := by
  unfold table
  rw [after_of_writes_sub _ _ hostOps0_13_writes (by decide), after_of_writes_sub _ _ hostOps0_12_writes (by decide),
    after_of_writes_sub _ _ hostOps0_11_writes (by decide), after_of_writes_sub _ _ hostOps0_10_writes (by decide),
    after_of_writes_sub _ _ hostOps0_9_writes (by decide), after_of_writes_sub _ _ hostOps0_8_writes (by decide),
    after_of_writes_sub _ _ hostOps0_7_writes (by decide)]

/-- What the loop begins with, of the candidates. -/
theorem carried_table (h : Ready W d) : Carried d (table W) 0 := by
  have hst : ∀ j : Fin 2048, after (hostOps0_7 (F := Ideal)) W main_v17 (at1 j) = d.S j.val := fun j => by
    rw [s7_start, column_at _ ![0, 0] 0 rfl rfl, h.start]
  have hen : ∀ j : Fin 2048, after (hostOps0_7 (F := Ideal)) W main_v19 (at1 j) = d.E j.val := fun j => by
    rw [s7_end, column_at _ ![0, 1] 1 rfl rfl, h.stop]
  have hdf : ∀ i j : Fin 2048, after (hostOps0_7 (F := Ideal)) W main_v30 (at2 i j) = d.df i.val j.val := fun i j => by
    rw [s7_df]
    show FloatOps.subf (F := Ideal) (φ := .f32) (FloatOps.minimumf (colOf _ (at2 i j)) (rowOf _ (at2 i j))) (FloatOps.maximumf (colOf _ (at2 i j)) (rowOf _ (at2 i j))) = _
    rw [colOf_at, rowOf_at, colOf_at, rowOf_at, hst, hst, hen, hen]
    rfl
  have h8 : ∀ i j : Fin 2048, after hostOps0_8 (after (hostOps0_7 (F := Ideal)) W) main_v31 (at2 i j) = max Lanes.zero (d.df i.val j.val) := fun i j => by
    rw [s8, s7_zero]
    show max Lanes.zero (after (hostOps0_7 (F := Ideal)) W main_v30 (at2 i j)) = _
    rw [hdf]
  have h9 : ∀ i j : Fin 2048, after hostOps0_9 (after hostOps0_8 (after (hostOps0_7 (F := Ideal)) W)) main_v38 (at2 i j) = d.un0 i.val j.val := fun i j => by
    rw [s9_un, after_of_writes_sub (r := main_v19) _ _ hostOps0_8_writes (by decide), after_of_writes_sub (r := main_v17) _ _ hostOps0_8_writes (by decide)]
    show FloatOps.subf (F := Ideal) (φ := .f32) (FloatOps.addf (colOf _ (at2 i j)) (rowOf _ (at2 i j))) (after hostOps0_8 (after (hostOps0_7 (F := Ideal)) W) main_v31 (at2 i j)) = _
    rw [colOf_at, rowOf_at, h8]
    show FloatOps.subf (F := Ideal) (φ := .f32) (FloatOps.addf (FloatOps.subf (after (hostOps0_7 (F := Ideal)) W main_v19 (at1 i)) (after (hostOps0_7 (F := Ideal)) W main_v17 (at1 i)))
      (FloatOps.subf (after (hostOps0_7 (F := Ideal)) W main_v19 (at1 j)) (after (hostOps0_7 (F := Ideal)) W main_v17 (at1 j)))) _ = _
    rw [hst, hst, hen, hen, max_comm]
    rfl
  have h10 : ∀ i j : Fin 2048, after hostOps0_10 (after hostOps0_9 (after hostOps0_8 (after (hostOps0_7 (F := Ideal)) W))) main_v39 (at2 i j)
      = max (FloatOps.ofBits (F := Ideal) .f32 0x358637BD#32 : EReal) (d.un0 i.val j.val) := fun i j => by
    rw [s10, s9_eps]
    show max (FloatOps.ofBits (F := Ideal) .f32 0x358637BD#32 : EReal) (after hostOps0_9 (after hostOps0_8 (after (hostOps0_7 (F := Ideal)) W)) main_v38 (at2 i j)) = _
    rw [h9]
  refine ⟨fun i j => ?_, fun j => ?_, fun k => ?_, fun j => ?_⟩
  · unfold table
    rw [s13_score, s12, s11_div, s11_same, s11_zero]
    rw [after_of_writes_sub (r := main_v15) _ _ hostOps0_10_writes (by decide), after_of_writes_sub (r := main_v15) _ _ hostOps0_9_writes (by decide),
      after_of_writes_sub (r := main_v15) _ _ hostOps0_8_writes (by decide), after_of_writes_sub (r := main_v15) _ _ hostOps0_7_writes (by decide),
      after_of_writes_sub (r := main_v31) _ _ hostOps0_10_writes (by decide), after_of_writes_sub (r := main_v31) _ _ hostOps0_9_writes (by decide)]
    show Scalar.select (IntOp.cmpi .eq (colOf (W main_v15) (at2 i j)) (rowOf (W main_v15) (at2 i j)))
      (Ideal.div (after hostOps0_8 (after (hostOps0_7 (F := Ideal)) W) main_v31 (at2 i j))
        (after hostOps0_10 (after hostOps0_9 (after hostOps0_8 (after (hostOps0_7 (F := Ideal)) W))) main_v39 (at2 i j))) Lanes.zero = _
    rw [h8, h10, colOf_at, rowOf_at, h.batch, h.batch]
    rfl
  · unfold table
    rw [s13_pos]
    rfl
  · unfold table
    rw [s13_next]
    rfl
  · unfold table
    rw [s13_keep, after_of_writes_sub _ _ hostOps0_12_writes (by decide),
      after_of_writes_sub _ _ hostOps0_11_writes (by decide), after_of_writes_sub _ _ hostOps0_10_writes (by decide),
      after_of_writes_sub _ _ hostOps0_9_writes (by decide), after_of_writes_sub _ _ hostOps0_8_writes (by decide),
      after_of_writes_sub _ _ hostOps0_7_writes (by decide)]
    show FloatOps.cmpf (F := Ideal) (φ := .f32) .ogt (W main_values (at1 j)) (FloatOps.ofBits .f32 0xCCBEBC20#32) = 1#1 ↔ _
    rw [h.score]
    rfl

/-- The scores the reference ranks are the flat scores. -/
theorem flat_eq (x0 : Vec Ideal S16x64x64 .f32) :
    shapeCast S65536 (select (cmpf (F := Ideal) (φ := .f32) .ogt (shapeCast S16x4096 x0 shapeCasts_S16x64x64_S16x4096)
        (broadcastInDim S16x4096 ![] bcast_S_S16x4096 (constant (F := Ideal) S_ .f32 0x00000000#32)))
      (shapeCast S16x4096 x0 shapeCasts_S16x64x64_S16x4096)
      (broadcastInDim S16x4096 ![] bcast_S_S16x4096 (constant (F := Ideal) S_ .f32 0xCE6E6B28#32))) shapeCasts_S16x4096_S65536 = flat x0 := by
  funext i
  have h := congrFun (shapeCast_comp x0 shapeCasts_S16x64x64_S16x4096 shapeCasts_S16x4096_S65536) i
  show Scalar.select (FloatOps.cmpf (F := Ideal) (φ := .f32) .ogt (shapeCast S65536 (shapeCast S16x4096 x0 shapeCasts_S16x64x64_S16x4096) shapeCasts_S16x4096_S65536 i) (FloatOps.ofBits (F := Ideal) .f32 0x00000000#32))
    (shapeCast S65536 (shapeCast S16x4096 x0 shapeCasts_S16x64x64_S16x4096) shapeCasts_S16x4096_S65536 i) (FloatOps.ofBits (F := Ideal) .f32 0xCE6E6B28#32) = _
  rw [h]
  rfl

/-- The table of ends, in clips. -/
theorem ends_at (x1 : Vec Ideal S16x2x64x64 .f32) (p : Fin 65536) (k : Fin 2) :
    shapeCast S65536x2 (mulf (F := Ideal) (φ := .f32)
      (transpose S16x4096x2 [0, 2, 1] (shapeCast S16x2x4096 x1 shapeCasts_S16x2x64x64_S16x2x4096)
        transposes_S16x2x4096_S16x4096x2_0_2_1)
      (broadcastInDim S16x4096x2 ![] bcast_S_S16x4096x2 (constant (F := Ideal) S_ .f32 0x42800000#32))) shapeCasts_S16x4096x2_S65536x2 (ix2 p k)
    = FloatOps.mulf (F := Ideal) (φ := .f32) (endOf x1 k p) (FloatOps.ofBits .f32 0x42800000#32) := by
  rw [shapeCast_apply _ _ (ix2 p k) (ix3 (n0 := 16) (n1 := 4096) (n2 := 2) ⟨p.val / 4096, by omega⟩ ⟨p.val % 4096, by omega⟩ k)
    (by rw [Shape.rowMajor_val_two, Shape.rowMajor_val_three]; simp; omega)]
  show FloatOps.mulf (F := Ideal) (φ := .f32) (transpose S16x4096x2 [0, 2, 1] _ _ _) (FloatOps.ofBits .f32 0x42800000#32) = _
  rw [transpose_apply _ _ _ _ (ix3 (n0 := 16) (n1 := 2) (n2 := 4096) ⟨p.val / 4096, by omega⟩ k ⟨p.val % 4096, by omega⟩)
    (by intro a; fin_cases a <;> rfl)]
  rw [shapeCast_apply _ _ _ (ix4 (n0 := 16) (n1 := 2) (n2 := 64) (n3 := 64) ⟨p.val / 4096, by omega⟩ k ⟨p.val % 4096 / 64, by omega⟩ ⟨p.val % 64, by omega⟩)
    (by rw [Shape.rowMajor_val_four, Shape.rowMajor_val_three]; simp; omega)]
  rfl

/-- The batch of every position. -/
theorem batch_at (p : Fin 65536) :
    shapeCast S65536 (broadcastInDim S16x4096 ![0] bcast_S16_S16x4096_0 (iotaInDim S16 32 0)) shapeCasts_S16x4096_S65536 (ix1 p)
      = BitVec.ofNat 32 (p.val / 4096) := by
  rw [shapeCast_apply _ _ (ix1 p) (ix2 (n0 := 16) (n1 := 4096) ⟨p.val / 4096, by omega⟩ ⟨p.val % 4096, by omega⟩)
    (by rw [Shape.rowMajor_val_one, Shape.rowMajor_val_two]; simp; omega)]
  rw [broadcastInDim_apply _ _ _ _ (ix1 (n0 := 16) ⟨p.val / 4096, by omega⟩) (by intro a; fin_cases a; rfl)]
  rfl

theorem lane_val (j : Fin 2048) : lane j.val = j := Fin.ext (Nat.mod_eq_of_lt j.isLt)

/-- The stages before the pair table. -/
abbrev ranked : Valuation τ sig (Elt Ideal) := after hostOps0_6 (after hostOps0_5 (after hostOps0_4 (head4 W)))

theorem ranked_values : ranked W main_values = (top (W main_arg0)).1 := by
  unfold ranked
  rw [after_of_writes_sub _ _ hostOps0_6_writes (by decide), after_of_writes_sub _ _ hostOps0_5_writes (by decide), s4_values, s0_score, flat_eq]
  rfl

theorem four_indices : after hostOps0_4 (head4 W) main_indices = (top (W main_arg0)).2 := by
  rw [s4_indices, s0_score, flat_eq]
  rfl

theorem ranked_ends (j : Fin 2048) (k : Fin 2) : ranked W main_v14 (ix2 j k)
    = FloatOps.mulf (F := Ideal) (φ := .f32) (endOf (Host.sort S16x2x64x64 1 (comparator_f32_d1 (F := Ideal)) (W main_arg1)) k (posOf (W main_arg0) j)) (FloatOps.ofBits .f32 0x42800000#32) := by
  unfold ranked
  rw [after_of_writes_sub _ _ hostOps0_6_writes (by decide), s5, four_indices, s4_ends, s0_ends]
  rw [take_rows _ (posOf (W main_arg0)) (posOf_spec _) _ rfl rfl rfl rfl rfl]
  exact ends_at _ _ _

theorem ranked_batch (j : Fin 2048) : ranked W main_v15 (at1 j) = BitVec.ofNat 32 ((posOf (W main_arg0) j).val / 4096) := by
  unfold ranked
  rw [s6, after_of_writes_sub (r := main_indices) _ _ hostOps0_5_writes (by decide), after_of_writes_sub (r := main_v13) _ _ hostOps0_5_writes (by decide),
    four_indices, s4_batch]
  rw [take_vec _ (posOf (W main_arg0)) (posOf_spec _) _ rfl rfl rfl rfl]
  exact batch_at _

/-- The stages before the pair table leave the candidates of the two arguments. -/
theorem ready : Ready (ranked W) (cand (W main_arg0) (W main_arg1)) := by
  refine ⟨fun j => ?_, fun j => ?_, fun j => ?_, fun j => ?_⟩
  · rw [ranked_values]
    show _ = (top (W main_arg0)).1 (at1 (lane j.val))
    rw [lane_val]
  · rw [ranked_ends]
    show _ = FloatOps.mulf (F := Ideal) (φ := .f32) (min (endOf (W main_arg1) 0 (posOf (W main_arg0) (lane j.val))) (endOf (W main_arg1) 1 (posOf (W main_arg0) (lane j.val)))) (FloatOps.ofBits .f32 0x42800000#32)
    rw [lane_val]
    unfold endOf
    rw [(sort_ends _ _ _ _).1]
  · rw [ranked_ends]
    show _ = FloatOps.mulf (F := Ideal) (φ := .f32) (max (endOf (W main_arg1) 0 (posOf (W main_arg0) (lane j.val))) (endOf (W main_arg1) 1 (posOf (W main_arg0) (lane j.val)))) (FloatOps.ofBits .f32 0x42800000#32)
    rw [lane_val]
    unfold endOf
    rw [(sort_ends _ _ _ _).2]
  · rw [ranked_batch]
    show _ = BitVec.ofNat 32 ((posOf (W main_arg0) (lane j.val)).val / 4096)
    rw [lane_val]

end Cert.ReferenceIdeal.Greedy
-- ==== Proof.PartsA.lean ====
module

public import proofs.«01_k».proof.Proof.Steps

@[expose] public section

set_option maxRecDepth 16384
set_option maxHeartbeats 2000000

noncomputable section

namespace Cert.KernelIdeal.Greedy

open Idealize.ShloMosaic Idealize.ShloMosaic.TcCoe Idealize.ShloMosaic.Tactic
open Idealize.SL.Sem
open Facts₀ Facts
open Lanes

/-- An element of the ideal instance. -/
local notation "ℝ∞" => Ideal FTy.f32

variable (a0 : Memref sig .tc .vmem S1x2048 .f32) (h0 : a0.IsWhole) (a1 : Memref sig .tc .vmem S1x2048 .f32) (h1 : a1.IsWhole) (a2 : Memref sig .tc .vmem S1x2048 .f32) (h2 : a2.IsWhole) (a3 : Memref sig .tc .vmem S1x2048 .i32) (h3 : a3.IsWhole) (a4 : Memref sig .tc .vmem S2x2048 .f32) (h4 : a4.IsWhole) (a5 : Memref sig .tc .vmem S1x2048 .f32) (h5 : a5.IsWhole) (a6 : Memref sig .tc .vmem S1x2048 .f32) (h6 : a6.IsWhole) (d : Lanes)

/-- What part 18 of the kernel's body returns, by position. -/
theorem part18_eq : k0_part18 (F := Ideal) a0 h0 a1 h1 a2 h2 a3 h3 a4 h4 a5 h5 a6 h6 (vw 2048 0 d.S) (vw 2048 0 d.E) (vw 2048 0 d.L) (vw 2048 0 d.B) (vw 128 128 (d.K 0)) (vw 128 256 (d.K 0)) (vw 128 384 (d.K 0)) (vw 128 0 d.B) (vw 128 0 (d.K 128)) (col 0 d.S) (col 0 d.E) (col 0 d.L)
      = pure ⟨vw 1920 128 (d.A 0 128), vw 128 128 (d.K 128), vw 128 256 (d.K 128), vw 128 384 (d.K 128), vw 128 512 (d.A 0 128)⟩ := by
  unfold k0_part18
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_top]
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 19 of the kernel's body returns, by position. -/
theorem part19_eq : k0_part19 (F := Ideal) a0 h0 a1 h1 a2 h2 a3 h3 a4 h4 a5 h5 a6 h6 (vw 2048 0 d.S) (vw 2048 0 d.E) (vw 2048 0 d.L) (vw 2048 0 d.B) (vw 128 0 (fun j => BitVec.ofNat 32 j)) (vw 128 512 (d.K 0)) (vw 128 640 (d.K 0)) (vw 128 768 (d.K 0)) (vw 128 896 (d.K 0)) (vw 128 1024 (d.K 0)) (vw 128 1152 (d.K 0)) (vw 128 1280 (d.K 0)) (vw 128 1408 (d.K 0)) (vw 128 1536 (d.K 0)) (vw 128 1664 (d.K 0)) (vw 128 1792 (d.K 0)) (vw 128 1920 (d.K 0)) (vw 1920 128 (d.A 0 128)) (vw 128 128 (d.K 128)) (vw 128 512 (d.A 0 128))
      = pure ⟨vw 128 512 (d.K 128), vw 128 640 (d.K 128), vw 128 768 (d.K 128), vw 128 896 (d.K 128), vw 128 1024 (d.K 128), vw 128 1152 (d.K 128), vw 128 1280 (d.K 128), vw 128 1408 (d.K 128), vw 128 1536 (d.K 128), vw 128 1664 (d.K 128), vw 128 1792 (d.K 128), vw 128 1920 (d.K 128), vw 128 128 d.B, vw 128 128 (d.K 256), col 128 d.S, col 128 d.E, col 128 d.L⟩ := by
  unfold k0_part19
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 128 (by decide) (fun k acc => rfl) _).trans ?_
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 20 of the kernel's body returns, by position. -/
theorem part20_eq : k0_part20 (F := Ideal) a0 h0 a1 h1 a2 h2 a3 h3 a4 h4 a5 h5 a6 h6 (vw 2048 0 d.S) (vw 2048 0 d.E) (vw 2048 0 d.L) (vw 2048 0 d.B) (vw 128 256 (d.K 128)) (vw 128 384 (d.K 128)) (vw 128 512 (d.K 128)) (vw 128 128 d.B) (vw 128 128 (d.K 256)) (col 128 d.S) (col 128 d.E) (col 128 d.L)
      = pure ⟨vw 1792 256 (d.A 128 256), vw 128 256 (d.K 256), vw 128 384 (d.K 256), vw 128 512 (d.K 256), vw 128 640 (d.A 128 256)⟩ := by
  unfold k0_part20
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_top]
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 21 of the kernel's body returns, by position. -/
theorem part21_eq : k0_part21 (F := Ideal) a0 h0 a1 h1 a2 h2 a3 h3 a4 h4 a5 h5 a6 h6 (vw 2048 0 d.S) (vw 2048 0 d.E) (vw 2048 0 d.L) (vw 2048 0 d.B) (vw 128 0 (fun j => BitVec.ofNat 32 j)) (vw 128 640 (d.K 128)) (vw 128 768 (d.K 128)) (vw 128 896 (d.K 128)) (vw 128 1024 (d.K 128)) (vw 128 1152 (d.K 128)) (vw 128 1280 (d.K 128)) (vw 128 1408 (d.K 128)) (vw 128 1536 (d.K 128)) (vw 128 1664 (d.K 128)) (vw 128 1792 (d.K 128)) (vw 128 1920 (d.K 128)) (vw 1792 256 (d.A 128 256)) (vw 128 256 (d.K 256)) (vw 128 640 (d.A 128 256))
      = pure ⟨vw 128 640 (d.K 256), vw 128 768 (d.K 256), vw 128 896 (d.K 256), vw 128 1024 (d.K 256), vw 128 1152 (d.K 256), vw 128 1280 (d.K 256), vw 128 1408 (d.K 256), vw 128 1536 (d.K 256), vw 128 1664 (d.K 256), vw 128 1792 (d.K 256), vw 128 1920 (d.K 256), vw 128 256 (d.K 384), col 256 d.S, col 256 d.E, col 256 d.L, col 256 d.B, col 256 (d.K 384), vw 1664 384 d.S, vw 1664 384 d.E⟩ := by
  unfold k0_part21
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 256 (by decide) (fun k acc => rfl) _).trans ?_
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 22 of the kernel's body returns, by position. -/
theorem part22_eq : k0_part22 (F := Ideal) a0 h0 a1 h1 a2 h2 a3 h3 a4 h4 a5 h5 a6 h6 (vw 2048 0 d.L) (vw 2048 0 d.B) (vw 128 384 (d.K 256)) (vw 128 512 (d.K 256)) (vw 128 640 (d.K 256)) (vw 128 768 (d.K 256)) (col 256 d.S) (col 256 d.E) (col 256 d.L) (col 256 d.B) (col 256 (d.K 384)) (vw 1664 384 d.S) (vw 1664 384 d.E)
      = pure ⟨vw 1664 384 (d.A 256 384), vw 128 384 (d.K 384), vw 128 512 (d.K 384), vw 128 640 (d.K 384), vw 128 768 (d.K 384), vw 128 896 (d.A 256 384)⟩ := by
  unfold k0_part22
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_top]
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 23 of the kernel's body returns, by position. -/
theorem part23_eq : k0_part23 (F := Ideal) a0 h0 a1 h1 a2 h2 a3 h3 a4 h4 a5 h5 a6 h6 (vw 2048 0 d.S) (vw 2048 0 d.E) (vw 2048 0 d.L) (vw 2048 0 d.B) (vw 128 0 (fun j => BitVec.ofNat 32 j)) (vw 128 896 (d.K 256)) (vw 128 1024 (d.K 256)) (vw 128 1152 (d.K 256)) (vw 128 1280 (d.K 256)) (vw 128 1408 (d.K 256)) (vw 128 1536 (d.K 256)) (vw 128 1664 (d.K 256)) (vw 128 1792 (d.K 256)) (vw 128 1920 (d.K 256)) (vw 1664 384 (d.A 256 384)) (vw 128 384 (d.K 384)) (vw 128 896 (d.A 256 384))
      = pure ⟨vw 128 896 (d.K 384), vw 128 1024 (d.K 384), vw 128 1152 (d.K 384), vw 128 1280 (d.K 384), vw 128 1408 (d.K 384), vw 128 1536 (d.K 384), vw 128 1664 (d.K 384), vw 128 1792 (d.K 384), vw 128 1920 (d.K 384), vw 128 384 (d.K 512), col 384 d.L, col 384 d.B, col 384 (d.K 512), vw 1536 512 d.L, vw 1536 512 d.B, wd 1536 384 512 d.mn, wd 1536 384 512 d.mx⟩ := by
  unfold k0_part23
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 384 (by decide) (fun k acc => rfl) _).trans ?_
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

end Cert.KernelIdeal.Greedy

end
-- ==== Proof.PartsB.lean ====
module

public import proofs.«01_k».proof.Proof.Steps

@[expose] public section

set_option maxRecDepth 16384
set_option maxHeartbeats 2000000

noncomputable section

namespace Cert.KernelIdeal.Greedy

open Idealize.ShloMosaic Idealize.ShloMosaic.TcCoe Idealize.ShloMosaic.Tactic
open Idealize.SL.Sem
open Facts₀ Facts
open Lanes

/-- An element of the ideal instance. -/
local notation "ℝ∞" => Ideal FTy.f32

variable (a0 : Memref sig .tc .vmem S1x2048 .f32) (h0 : a0.IsWhole) (a1 : Memref sig .tc .vmem S1x2048 .f32) (h1 : a1.IsWhole) (a2 : Memref sig .tc .vmem S1x2048 .f32) (h2 : a2.IsWhole) (a3 : Memref sig .tc .vmem S1x2048 .i32) (h3 : a3.IsWhole) (a4 : Memref sig .tc .vmem S2x2048 .f32) (h4 : a4.IsWhole) (a5 : Memref sig .tc .vmem S1x2048 .f32) (h5 : a5.IsWhole) (a6 : Memref sig .tc .vmem S1x2048 .f32) (h6 : a6.IsWhole) (d : Lanes)

/-- What part 24 of the kernel's body returns, by position. -/
theorem part24_eq : k0_part24 (F := Ideal) a0 h0 a1 h1 a2 h2 a3 h3 a4 h4 a5 h5 a6 h6 (vw 128 512 (d.K 384)) (vw 128 640 (d.K 384)) (vw 128 768 (d.K 384)) (vw 128 896 (d.K 384)) (vw 128 1024 (d.K 384)) (vw 128 1152 (d.K 384)) (col 384 d.L) (col 384 d.B) (col 384 (d.K 512)) (vw 1536 512 d.L) (vw 1536 512 d.B) (wd 1536 384 512 d.mn) (wd 1536 384 512 d.mx)
      = pure ⟨vw 1536 512 (d.A 384 512), vw 128 512 (d.K 512), vw 128 640 (d.K 512), vw 128 768 (d.K 512), vw 128 896 (d.K 512), vw 128 1024 (d.K 512), vw 128 1152 (d.K 512), vw 128 1280 (d.A 384 512)⟩ := by
  unfold k0_part24
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_top]
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 25 of the kernel's body returns, by position. -/
theorem part25_eq : k0_part25 (F := Ideal) a0 h0 a1 h1 a2 h2 a3 h3 a4 h4 a5 h5 a6 h6 (vw 2048 0 d.S) (vw 2048 0 d.E) (vw 2048 0 d.L) (vw 2048 0 d.B) (vw 128 0 (fun j => BitVec.ofNat 32 j)) (vw 128 1280 (d.K 384)) (vw 128 1408 (d.K 384)) (vw 128 1536 (d.K 384)) (vw 128 1664 (d.K 384)) (vw 128 1792 (d.K 384)) (vw 128 1920 (d.K 384)) (vw 1536 512 (d.A 384 512)) (vw 128 512 (d.K 512)) (vw 128 1280 (d.A 384 512))
      = pure ⟨vw 128 1280 (d.K 512), vw 128 1408 (d.K 512), vw 128 1536 (d.K 512), vw 128 1664 (d.K 512), vw 128 1792 (d.K 512), vw 128 1920 (d.K 512), vw 128 512 (d.K 640), col 512 (d.K 640), vw 1408 640 d.B, wd 1408 512 640 d.inter, wd 1408 512 640 d.un, colw 1408 512 d.B⟩ := by
  unfold k0_part25
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 512 (by decide) (fun k acc => rfl) _).trans ?_
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 26 of the kernel's body returns, by position. -/
theorem part26_eq : k0_part26 (F := Ideal) a0 h0 a1 h1 a2 h2 a3 h3 a4 h4 a5 h5 a6 h6 (vw 128 640 (d.K 512)) (vw 128 768 (d.K 512)) (vw 128 896 (d.K 512)) (vw 128 1024 (d.K 512)) (vw 128 1152 (d.K 512)) (vw 128 1280 (d.K 512)) (vw 128 1408 (d.K 512)) (vw 128 1536 (d.K 512)) (vw 128 1664 (d.K 512)) (col 512 (d.K 640)) (vw 1408 640 d.B) (wd 1408 512 640 d.inter) (wd 1408 512 640 d.un) (colw 1408 512 d.B)
      = pure ⟨vw 1408 640 (d.A 512 640), vw 128 640 (d.K 640), vw 128 768 (d.K 640), vw 128 896 (d.K 640), vw 128 1024 (d.K 640), vw 128 1152 (d.K 640), vw 128 1280 (d.K 640), vw 128 1408 (d.K 640), vw 128 1536 (d.K 640), vw 128 1664 (d.K 640), vw 128 1792 (d.A 512 640)⟩ := by
  unfold k0_part26
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_top]
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 27 of the kernel's body returns, by position. -/
theorem part27_eq : k0_part27 (F := Ideal) a0 h0 a1 h1 a2 h2 a3 h3 a4 h4 a5 h5 a6 h6 (vw 2048 0 d.S) (vw 2048 0 d.E) (vw 2048 0 d.L) (vw 2048 0 d.B) (vw 128 0 (fun j => BitVec.ofNat 32 j)) (vw 128 1792 (d.K 512)) (vw 128 1920 (d.K 512)) (vw 1408 640 (d.A 512 640)) (vw 128 640 (d.K 640)) (vw 128 1792 (d.A 512 640))
      = pure ⟨vw 128 1792 (d.K 640), vw 128 1920 (d.K 640), vw 128 640 (d.K 768), wd 1280 640 768 (d.hit 768), broadcast S128x1280 (FloatOps.ofBits .f32 0x3F800000#32 : ℝ∞), broadcast S128x1280 (FloatOps.ofBits .f32 0x00000000#32 : ℝ∞)⟩ := by
  unfold k0_part27
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 640 (by decide) (fun k acc => rfl) _).trans ?_
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 28 of the kernel's body returns, by position. -/
theorem part28_eq : k0_part28 (F := Ideal) a0 h0 a1 h1 a2 h2 a3 h3 a4 h4 a5 h5 a6 h6 (vw 2048 0 d.S) (vw 2048 0 d.E) (vw 2048 0 d.L) (vw 2048 0 d.B) (vw 128 0 (fun j => BitVec.ofNat 32 j)) (vw 128 768 (d.K 640)) (vw 128 896 (d.K 640)) (vw 128 1024 (d.K 640)) (vw 128 1152 (d.K 640)) (vw 128 1280 (d.K 640)) (vw 128 1408 (d.K 640)) (vw 128 1536 (d.K 640)) (vw 128 1664 (d.K 640)) (vw 128 1792 (d.K 640)) (vw 128 1920 (d.K 640)) (wd 1280 640 768 (d.hit 768)) (broadcast S128x1280 (FloatOps.ofBits .f32 0x3F800000#32 : ℝ∞)) (broadcast S128x1280 (FloatOps.ofBits .f32 0x00000000#32 : ℝ∞))
      = pure ⟨vw 128 896 (d.K 768), vw 128 1024 (d.K 768), vw 128 1152 (d.K 768), vw 128 1280 (d.K 768), vw 128 1408 (d.K 768), vw 128 1536 (d.K 768), vw 128 1664 (d.K 768), vw 128 1792 (d.K 768), vw 128 1920 (d.K 768), vw 128 768 d.B, vw 128 768 (d.K 896), col 768 d.S, col 768 d.E, col 768 d.L⟩ := by
  unfold k0_part28
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_top]
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 768 (by decide) (fun k acc => rfl) _).trans ?_
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 29 of the kernel's body returns, by position. -/
theorem part29_eq : k0_part29 (F := Ideal) a0 h0 a1 h1 a2 h2 a3 h3 a4 h4 a5 h5 a6 h6 (vw 2048 0 d.S) (vw 2048 0 d.E) (vw 2048 0 d.L) (vw 2048 0 d.B) (vw 128 896 (d.K 768)) (vw 128 1024 (d.K 768)) (vw 128 1152 (d.K 768)) (vw 128 768 d.B) (vw 128 768 (d.K 896)) (col 768 d.S) (col 768 d.E) (col 768 d.L)
      = pure ⟨vw 1152 896 (d.A 768 896), vw 128 896 (d.K 896), vw 128 1024 (d.K 896), vw 128 1152 (d.K 896), vw 128 1280 (d.A 768 896)⟩ := by
  unfold k0_part29
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_top]
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 30 of the kernel's body returns, by position. -/
theorem part30_eq : k0_part30 (F := Ideal) a0 h0 a1 h1 a2 h2 a3 h3 a4 h4 a5 h5 a6 h6 (vw 2048 0 d.S) (vw 2048 0 d.E) (vw 2048 0 d.L) (vw 2048 0 d.B) (vw 128 0 (fun j => BitVec.ofNat 32 j)) (vw 128 1280 (d.K 768)) (vw 128 1408 (d.K 768)) (vw 128 1536 (d.K 768)) (vw 128 1664 (d.K 768)) (vw 128 1792 (d.K 768)) (vw 128 1920 (d.K 768)) (vw 1152 896 (d.A 768 896)) (vw 128 896 (d.K 896)) (vw 128 1280 (d.A 768 896))
      = pure ⟨vw 128 1280 (d.K 896), vw 128 1408 (d.K 896), vw 128 1536 (d.K 896), vw 128 1664 (d.K 896), vw 128 1792 (d.K 896), vw 128 1920 (d.K 896), vw 128 896 (d.K 1024), col 896 (d.K 1024), vw 1024 1024 d.B, wd 1024 896 1024 d.inter, wd 1024 896 1024 d.un, colw 1024 896 d.B⟩ := by
  unfold k0_part30
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 896 (by decide) (fun k acc => rfl) _).trans ?_
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

end Cert.KernelIdeal.Greedy

end
-- ==== Proof.PartsC.lean ====
module

public import proofs.«01_k».proof.Proof.Steps

@[expose] public section

set_option maxRecDepth 16384
set_option maxHeartbeats 2000000

noncomputable section

namespace Cert.KernelIdeal.Greedy

open Idealize.ShloMosaic Idealize.ShloMosaic.TcCoe Idealize.ShloMosaic.Tactic
open Idealize.SL.Sem
open Facts₀ Facts
open Lanes

/-- An element of the ideal instance. -/
local notation "ℝ∞" => Ideal FTy.f32

variable (a0 : Memref sig .tc .vmem S1x2048 .f32) (h0 : a0.IsWhole) (a1 : Memref sig .tc .vmem S1x2048 .f32) (h1 : a1.IsWhole) (a2 : Memref sig .tc .vmem S1x2048 .f32) (h2 : a2.IsWhole) (a3 : Memref sig .tc .vmem S1x2048 .i32) (h3 : a3.IsWhole) (a4 : Memref sig .tc .vmem S2x2048 .f32) (h4 : a4.IsWhole) (a5 : Memref sig .tc .vmem S1x2048 .f32) (h5 : a5.IsWhole) (a6 : Memref sig .tc .vmem S1x2048 .f32) (h6 : a6.IsWhole) (d : Lanes)

/-- What part 31 of the kernel's body returns, by position. -/
theorem part31_eq : k0_part31 (F := Ideal) a0 h0 a1 h1 a2 h2 a3 h3 a4 h4 a5 h5 a6 h6 (vw 2048 0 d.S) (vw 2048 0 d.E) (vw 2048 0 d.L) (vw 2048 0 d.B) (vw 128 1024 (d.K 896)) (vw 128 1152 (d.K 896)) (vw 128 1280 (d.K 896)) (vw 128 1408 (d.K 896)) (vw 128 1536 (d.K 896)) (vw 128 1664 (d.K 896)) (vw 128 1792 (d.K 896)) (vw 128 1920 (d.K 896)) (col 896 (d.K 1024)) (vw 1024 1024 d.B) (wd 1024 896 1024 d.inter) (wd 1024 896 1024 d.un) (colw 1024 896 d.B)
      = pure ⟨vw 128 1024 (d.K 1024), vw 128 1152 (d.K 1024), vw 128 1280 (d.K 1024), vw 128 1408 (d.K 1024), vw 128 1536 (d.K 1024), vw 128 1664 (d.K 1024), vw 128 1792 (d.K 1024), vw 128 1920 (d.K 1024), vw 128 1024 d.S, vw 128 1024 d.E, vw 128 1024 d.L, vw 128 1024 d.B, 0#32⟩ := by
  unfold k0_part31
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_top]
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 32 of the kernel's body returns, by position. -/
theorem part32_eq : k0_part32 (F := Ideal) a0 h0 a1 h1 a2 h2 a3 h3 a4 h4 a5 h5 a6 h6 (vw 2048 0 d.S) (vw 2048 0 d.E) (vw 2048 0 d.L) (vw 2048 0 d.B) (vw 128 0 (fun j => BitVec.ofNat 32 j)) (vw 128 1024 (d.K 1024)) (vw 128 1152 (d.K 1024)) (vw 128 1024 d.S) (vw 128 1024 d.E) (vw 128 1024 d.L) (vw 128 1024 d.B) (0#32)
      = pure ⟨vw 128 1024 (d.K 1152), vw 896 1152 (d.A 1024 1152), vw 128 1152 (d.K 1152), vw 128 1280 (d.A 1024 1152)⟩ := by
  unfold k0_part32
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 1024 (by decide) (fun k acc => rfl) _).trans ?_
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_top]
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 33 of the kernel's body returns, by position. -/
theorem part33_eq : k0_part33 (F := Ideal) a0 h0 a1 h1 a2 h2 a3 h3 a4 h4 a5 h5 a6 h6 (vw 2048 0 d.S) (vw 2048 0 d.E) (vw 2048 0 d.L) (vw 2048 0 d.B) (vw 128 0 (fun j => BitVec.ofNat 32 j)) (vw 128 1280 (d.K 1024)) (vw 128 1408 (d.K 1024)) (vw 128 1536 (d.K 1024)) (vw 128 1664 (d.K 1024)) (vw 128 1792 (d.K 1024)) (vw 128 1920 (d.K 1024)) (vw 896 1152 (d.A 1024 1152)) (vw 128 1152 (d.K 1152)) (vw 128 1280 (d.A 1024 1152))
      = pure ⟨vw 128 1280 (d.K 1152), vw 128 1408 (d.K 1152), vw 128 1536 (d.K 1152), vw 128 1664 (d.K 1152), vw 128 1792 (d.K 1152), vw 128 1920 (d.K 1152), vw 128 1152 (d.K 1280), col 1152 (d.K 1280), vw 768 1280 d.B, wd 768 1152 1280 d.inter, wd 768 1152 1280 d.un, colw 768 1152 d.B⟩ := by
  unfold k0_part33
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 1152 (by decide) (fun k acc => rfl) _).trans ?_
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 34 of the kernel's body returns, by position. -/
theorem part34_eq : k0_part34 (F := Ideal) a0 h0 a1 h1 a2 h2 a3 h3 a4 h4 a5 h5 a6 h6 (vw 2048 0 d.S) (vw 2048 0 d.E) (vw 2048 0 d.L) (vw 2048 0 d.B) (vw 128 0 (fun j => BitVec.ofNat 32 j)) (vw 128 1280 (d.K 1152)) (vw 128 1408 (d.K 1152)) (vw 128 1536 (d.K 1152)) (vw 128 1664 (d.K 1152)) (vw 128 1792 (d.K 1152)) (vw 128 1920 (d.K 1152)) (col 1152 (d.K 1280)) (vw 768 1280 d.B) (wd 768 1152 1280 d.inter) (wd 768 1152 1280 d.un) (colw 768 1152 d.B)
      = pure ⟨vw 128 1408 (d.K 1280), vw 128 1536 (d.K 1280), vw 128 1664 (d.K 1280), vw 128 1792 (d.K 1280), vw 128 1920 (d.K 1280), vw 128 1280 d.B, vw 128 1280 (d.K 1408), col 1280 d.S, col 1280 d.E, col 1280 d.L⟩ := by
  unfold k0_part34
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_top]
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 1280 (by decide) (fun k acc => rfl) _).trans ?_
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 35 of the kernel's body returns, by position. -/
theorem part35_eq : k0_part35 (F := Ideal) a0 h0 a1 h1 a2 h2 a3 h3 a4 h4 a5 h5 a6 h6 (vw 2048 0 d.S) (vw 2048 0 d.E) (vw 2048 0 d.L) (vw 2048 0 d.B) (vw 128 1408 (d.K 1280)) (vw 128 1536 (d.K 1280)) (vw 128 1664 (d.K 1280)) (vw 128 1280 d.B) (vw 128 1280 (d.K 1408)) (col 1280 d.S) (col 1280 d.E) (col 1280 d.L)
      = pure ⟨vw 640 1408 (d.A 1280 1408), vw 128 1408 (d.K 1408), vw 128 1536 (d.K 1408), vw 128 1664 (d.K 1408), vw 128 1792 (d.A 1280 1408)⟩ := by
  unfold k0_part35
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_top]
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 36 of the kernel's body returns, by position. -/
theorem part36_eq : k0_part36 (F := Ideal) a0 h0 a1 h1 a2 h2 a3 h3 a4 h4 a5 h5 a6 h6 (vw 2048 0 d.S) (vw 2048 0 d.E) (vw 2048 0 d.L) (vw 2048 0 d.B) (vw 128 0 (fun j => BitVec.ofNat 32 j)) (vw 128 1792 (d.K 1280)) (vw 128 1920 (d.K 1280)) (vw 640 1408 (d.A 1280 1408)) (vw 128 1408 (d.K 1408)) (vw 128 1792 (d.A 1280 1408))
      = pure ⟨vw 128 1792 (d.K 1408), vw 128 1920 (d.K 1408), vw 128 1408 (d.K 1536), wd 512 1408 1536 (d.hit 1536), broadcast S128x512 (FloatOps.ofBits .f32 0x3F800000#32 : ℝ∞), broadcast S128x512 (FloatOps.ofBits .f32 0x00000000#32 : ℝ∞)⟩ := by
  unfold k0_part36
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 1408 (by decide) (fun k acc => rfl) _).trans ?_
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

end Cert.KernelIdeal.Greedy

end
-- ==== Proof.PartsD.lean ====
module

public import proofs.«01_k».proof.Proof.Steps

@[expose] public section

set_option maxRecDepth 16384
set_option maxHeartbeats 2000000

noncomputable section

namespace Cert.KernelIdeal.Greedy

open Idealize.ShloMosaic Idealize.ShloMosaic.TcCoe Idealize.ShloMosaic.Tactic
open Idealize.SL.Sem
open Facts₀ Facts
open Lanes

/-- An element of the ideal instance. -/
local notation "ℝ∞" => Ideal FTy.f32

variable (a0 : Memref sig .tc .vmem S1x2048 .f32) (h0 : a0.IsWhole) (a1 : Memref sig .tc .vmem S1x2048 .f32) (h1 : a1.IsWhole) (a2 : Memref sig .tc .vmem S1x2048 .f32) (h2 : a2.IsWhole) (a3 : Memref sig .tc .vmem S1x2048 .i32) (h3 : a3.IsWhole) (a4 : Memref sig .tc .vmem S2x2048 .f32) (h4 : a4.IsWhole) (a5 : Memref sig .tc .vmem S1x2048 .f32) (h5 : a5.IsWhole) (a6 : Memref sig .tc .vmem S1x2048 .f32) (h6 : a6.IsWhole) (d : Lanes)

/-- What part 37 of the kernel's body returns, by position. -/
theorem part37_eq : k0_part37 (F := Ideal) a0 h0 a1 h1 a2 h2 a3 h3 a4 h4 a5 h5 a6 h6 (vw 2048 0 d.S) (vw 2048 0 d.E) (vw 2048 0 d.L) (vw 2048 0 d.B) (vw 128 0 (fun j => BitVec.ofNat 32 j)) (vw 128 1536 (d.K 1408)) (vw 128 1664 (d.K 1408)) (vw 128 1792 (d.K 1408)) (vw 128 1920 (d.K 1408)) (wd 512 1408 1536 (d.hit 1536)) (broadcast S128x512 (FloatOps.ofBits .f32 0x3F800000#32 : ℝ∞)) (broadcast S128x512 (FloatOps.ofBits .f32 0x00000000#32 : ℝ∞))
      = pure ⟨vw 128 1664 (d.K 1536), vw 128 1792 (d.K 1536), vw 128 1920 (d.K 1536), vw 128 1536 (d.K 1664), col 1536 (d.K 1664), vw 384 1664 d.B, wd 384 1536 1664 d.inter, wd 384 1536 1664 d.un, colw 384 1536 d.B⟩ := by
  unfold k0_part37
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_top]
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 1536 (by decide) (fun k acc => rfl) _).trans ?_
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 38 of the kernel's body returns, by position. -/
theorem part38_eq : k0_part38 (F := Ideal) a0 h0 a1 h1 a2 h2 a3 h3 a4 h4 a5 h5 a6 h6 (vw 2048 0 d.S) (vw 2048 0 d.E) (vw 2048 0 d.L) (vw 2048 0 d.B) (vw 128 0 (fun j => BitVec.ofNat 32 j)) (vw 128 1664 (d.K 1536)) (vw 128 1792 (d.K 1536)) (vw 128 1920 (d.K 1536)) (col 1536 (d.K 1664)) (vw 384 1664 d.B) (wd 384 1536 1664 d.inter) (wd 384 1536 1664 d.un) (colw 384 1536 d.B)
      = pure ⟨vw 128 1792 (d.K 1664), vw 128 1920 (d.K 1664), vw 128 1664 (d.K 1792), col 1664 d.L, col 1664 d.B, col 1664 (d.K 1792), vw 256 1792 d.L, vw 256 1792 d.B, wd 256 1664 1792 d.mn, wd 256 1664 1792 d.mx⟩ := by
  unfold k0_part38
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_top]
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 1664 (by decide) (fun k acc => rfl) _).trans ?_
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 39 of the kernel's body returns, by position. -/
theorem part39_eq : k0_part39 (F := Ideal) a0 h0 a1 h1 a2 h2 a3 h3 a4 h4 a5 h5 a6 h6 (vw 2048 0 d.S) (vw 2048 0 d.E) (vw 2048 0 d.L) (vw 2048 0 d.B) (vw 128 0 (fun j => BitVec.ofNat 32 j)) (vw 128 1792 (d.K 1664)) (vw 128 1920 (d.K 1664)) (col 1664 d.L) (col 1664 d.B) (col 1664 (d.K 1792)) (vw 256 1792 d.L) (vw 256 1792 d.B) (wd 256 1664 1792 d.mn) (wd 256 1664 1792 d.mx)
      = pure ⟨vw 128 1920 (d.K 1792), vw 128 1792 (d.K 1920), col 1792 d.S, col 1792 d.E, col 1792 d.L, col 1792 d.B, col 1792 (d.K 1920), vw 128 1920 d.S, vw 128 1920 d.E⟩ := by
  unfold k0_part39
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_top]
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 1792 (by decide) (fun k acc => rfl) _).trans ?_
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]

/-- What part 40 of the kernel's body returns, by position. -/
theorem part40_eq : k0_part40 (F := Ideal) a0 h0 a1 h1 a2 h2 a3 h3 a4 h4 a5 h5 a6 h6 (vw 2048 0 d.S) (vw 2048 0 d.E) (vw 2048 0 d.L) (vw 2048 0 d.B) (vw 2048 0 d.SC) (vw 128 0 (fun j => BitVec.ofNat 32 j)) (vw 128 0 (d.K 128)) (vw 128 128 (d.K 256)) (vw 128 256 (d.K 384)) (vw 128 384 (d.K 512)) (vw 128 512 (d.K 640)) (vw 128 640 (d.K 768)) (vw 128 768 (d.K 896)) (vw 128 896 (d.K 1024)) (vw 128 1024 (d.K 1152)) (vw 128 1152 (d.K 1280)) (vw 128 1280 (d.K 1408)) (vw 128 1408 (d.K 1536)) (vw 128 1536 (d.K 1664)) (vw 128 1664 (d.K 1792)) (vw 128 1920 (d.K 1792)) (vw 128 1792 (d.K 1920)) (col 1792 d.S) (col 1792 d.E) (col 1792 d.L) (col 1792 d.B) (col 1792 (d.K 1920)) (vw 128 1920 d.S) (vw 128 1920 d.E)
      = pure ⟨vw 2048 0 (d.K 2048), mulf (vw 2048 0 d.SC) (vw 2048 0 (d.K 2048))⟩ := by
  unfold k0_part40
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_top]
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 1920 (by decide) (fun k acc => rfl) _).trans ?_
  exact congrArg (fun z : FVec Ideal S1x2048 .f32 => (pure ⟨z, mulf (vw 2048 0 d.SC) z⟩ : Prog (TpuEff nD τ sig (Elt Ideal) Λ₀ Proc.tc) (Σ' (_ : FVec Ideal S1x2048 .f32), FVec Ideal S1x2048 .f32))) (concat_blocks d _ _ rfl)

end Cert.KernelIdeal.Greedy

end
-- ==== Proof.PartsE.lean ====
module

public import proofs.«01_k».proof.Proof.PartsA
public import proofs.«01_k».proof.Proof.PartsB
public import proofs.«01_k».proof.Proof.PartsC
public import proofs.«01_k».proof.Proof.PartsD

@[expose] public section

set_option maxRecDepth 16384
set_option maxHeartbeats 2000000

noncomputable section

namespace Cert.KernelIdeal.Greedy

open Idealize.ShloMosaic Idealize.ShloMosaic.TcCoe Idealize.ShloMosaic.Tactic
open Idealize.SL.Sem
open Facts₀ Facts
open Lanes
open Idealize.ShloMosaic (ix2)

/-- An element of the ideal instance. -/
local notation "ℝ∞" => Ideal FTy.f32

/-- A row read by position. -/
def ofRow {α : Type} (x : S1x2048.Idx → α) (j : ℕ) : α := x (ix2 (0 : Fin 1) (⟨j % 2048, Nat.mod_lt _ (by decide)⟩ : Fin 2048))

theorem vw_ofRow {α : Type} (x : S1x2048.Idx → α) : x = vw 2048 0 (ofRow x) := by
  funext i
  have h0 : (i 0).val < 1 := (i 0).isLt
  have h1 : (i 1).val < 2048 := (i 1).isLt
  refine congrArg x (funext fun a => ?_)
  match a with
  | 0 => exact Fin.ext (show (i 0).val = 0 by omega)
  | 1 => exact Fin.ext (show (i 1).val = (0 + (i 1).val) % 2048 by omega)

/-- The lanes of what the kernel loads. -/
def lanes (x0 x1 x2 : Vec Ideal S1x2048 .f32) (x3 : Vec Ideal S1x2048 .i32) : Lanes :=
  ⟨ofRow x1, ofRow x2, ofRow x3, ofRow x0⟩

variable (a0 : Memref sig .tc .vmem S1x2048 .f32) (h0 : a0.IsWhole) (a1 : Memref sig .tc .vmem S1x2048 .f32) (h1 : a1.IsWhole) (a2 : Memref sig .tc .vmem S1x2048 .f32) (h2 : a2.IsWhole) (a3 : Memref sig .tc .vmem S1x2048 .i32) (h3 : a3.IsWhole) (a4 : Memref sig .tc .vmem S2x2048 .f32) (h4 : a4.IsWhole) (a5 : Memref sig .tc .vmem S1x2048 .f32) (h5 : a5.IsWhole) (a6 : Memref sig .tc .vmem S1x2048 .f32) (h6 : a6.IsWhole)

/-- What the first part of the kernel's body returns, by position. -/
theorem part17_eq : k0_part17 (F := Ideal) a0 h0 a1 h1 a2 h2 a3 h3 a4 h4 a5 h5 a6 h6
      = loadsOf a0 a1 a2 a3 fun x1 x2 x3 x0 => pure ⟨vw 2048 0 (lanes x0 x1 x2 x3).lo, vw 2048 0 (lanes x0 x1 x2 x3).hi, vw 2048 0 (lanes x0 x1 x2 x3).S, vw 2048 0 (lanes x0 x1 x2 x3).E, vw 2048 0 (lanes x0 x1 x2 x3).L, vw 2048 0 (lanes x0 x1 x2 x3).B, vw 2048 0 (lanes x0 x1 x2 x3).SC, vw 128 0 (fun j => BitVec.ofNat 32 j), vw 128 128 ((lanes x0 x1 x2 x3).K 0), vw 128 256 ((lanes x0 x1 x2 x3).K 0), vw 128 384 ((lanes x0 x1 x2 x3).K 0), vw 128 512 ((lanes x0 x1 x2 x3).K 0), vw 128 640 ((lanes x0 x1 x2 x3).K 0), vw 128 768 ((lanes x0 x1 x2 x3).K 0), vw 128 896 ((lanes x0 x1 x2 x3).K 0), vw 128 1024 ((lanes x0 x1 x2 x3).K 0), vw 128 1152 ((lanes x0 x1 x2 x3).K 0), vw 128 1280 ((lanes x0 x1 x2 x3).K 0), vw 128 1408 ((lanes x0 x1 x2 x3).K 0), vw 128 1536 ((lanes x0 x1 x2 x3).K 0), vw 128 1664 ((lanes x0 x1 x2 x3).K 0), vw 128 1792 ((lanes x0 x1 x2 x3).K 0), vw 128 1920 ((lanes x0 x1 x2 x3).K 0), vw 128 0 (lanes x0 x1 x2 x3).B, vw 128 0 ((lanes x0 x1 x2 x3).K 128), col 0 (lanes x0 x1 x2 x3).S, col 0 (lanes x0 x1 x2 x3).E, col 0 (lanes x0 x1 x2 x3).L⟩ := by
  unfold k0_part17 loadsOf
  refine bind_congr fun x1 => ?_
  refine bind_congr fun x2 => ?_
  refine bind_congr fun x3 => ?_
  refine bind_congr fun x0 => ?_
  have e0 : x0 = vw 2048 0 (lanes x0 x1 x2 x3).SC := vw_ofRow x0
  have e1 : x1 = vw 2048 0 (lanes x0 x1 x2 x3).T0 := vw_ofRow x1
  have e2 : x2 = vw 2048 0 (lanes x0 x1 x2 x3).T1 := vw_ofRow x2
  have e3 : x3 = vw 2048 0 (lanes x0 x1 x2 x3).B := vw_ofRow x3
  beta_reduce
  generalize lanes x0 x1 x2 x3 = d at e0 e1 e2 e3 ⊢
  subst e0 e1 e2 e3
  simp only [shapeCast_self, op_lo, op_hi, op_S, op_E, op_L, op_valid, op_validf, vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  refine (loop_bind d 0 (by decide) (fun k acc => rfl) _).trans ?_
  simp only [vw_slice, vw_col, ln_row, col_wide, row_wide, op_mn, op_mx, op_df, op_inter, op_ls, op_un0, op_un, op_hun, op_big, op_same, op_ov, op_on, op_hit, op_hitf, op_top, op_A, op_iota, Nat.reduceAdd, op_next, Nat.reduceLeDiff]
  rw [op_iota]

/-- The four rows the kernel stores: scores, keep flags, and the two ends of the boxes. -/
def rowsOf (x0 x1 x2 : Vec Ideal S1x2048 .f32) (x3 : Vec Ideal S1x2048 .i32) : Fin 4 → Vec Ideal S1x2048 .f32
  | 0 => mulf (vw 2048 0 (lanes x0 x1 x2 x3).SC) (vw 2048 0 ((lanes x0 x1 x2 x3).K 2048))
  | 1 => vw 2048 0 ((lanes x0 x1 x2 x3).K 2048)
  | 2 => mulf (vw 2048 0 (lanes x0 x1 x2 x3).lo) (vw 2048 0 ((lanes x0 x1 x2 x3).K 2048))
  | 3 => mulf (vw 2048 0 (lanes x0 x1 x2 x3).hi) (vw 2048 0 ((lanes x0 x1 x2 x3).K 2048))

/-- A program that only returns, before another. -/
theorem pure_then {α β : Type} (a : α) (k : α → Prog (TpuEff nD τ sig (Elt Ideal) Λ₀ Proc.tc) β) :
    (pure a : Prog (TpuEff nD τ sig (Elt Ideal) Λ₀ Proc.tc) α) >>= k = k a := rfl

/-- The kernel's body stores exactly those rows. -/
theorem kernel_stores : cc0__nms_kernel (F := Ideal) a0 h0 a1 h1 a2 h2 a3 h3 a4 h4 a5 h5 a6 h6 = bodyOf a0 a1 a2 a3 a4 a5 a6 rowsOf := by
  unfold cc0__nms_kernel bodyOf
  rw [part17_eq, loads_bind]
  unfold loadsOf
  refine bind_congr fun x1 => ?_
  refine bind_congr fun x2 => ?_
  refine bind_congr fun x3 => ?_
  refine bind_congr fun x0 => ?_
  beta_reduce
  rw [pure_then]
  dsimp only
  rw [part18_eq, pure_then]
  dsimp only
  rw [part19_eq, pure_then]
  dsimp only
  rw [part20_eq, pure_then]
  dsimp only
  rw [part21_eq, pure_then]
  dsimp only
  rw [part22_eq, pure_then]
  dsimp only
  rw [part23_eq, pure_then]
  dsimp only
  rw [part24_eq, pure_then]
  dsimp only
  rw [part25_eq, pure_then]
  dsimp only
  rw [part26_eq, pure_then]
  dsimp only
  rw [part27_eq, pure_then]
  dsimp only
  rw [part28_eq, pure_then]
  dsimp only
  rw [part29_eq, pure_then]
  dsimp only
  rw [part30_eq, pure_then]
  dsimp only
  rw [part31_eq, pure_then]
  dsimp only
  rw [part32_eq, pure_then]
  dsimp only
  rw [part33_eq, pure_then]
  dsimp only
  rw [part34_eq, pure_then]
  dsimp only
  rw [part35_eq, pure_then]
  dsimp only
  rw [part36_eq, pure_then]
  dsimp only
  rw [part37_eq, pure_then]
  dsimp only
  rw [part38_eq, pure_then]
  dsimp only
  rw [part39_eq, pure_then]
  dsimp only
  rw [part40_eq, pure_then]
  dsimp only
  rfl

end Cert.KernelIdeal.Greedy

end
-- ==== Proof.IdealValue.lean ====
module

public import proofs.«01_k».proof.Proof.PartsE
public import proofs.«01_k».proof.Proof.IdealRun
public import Idealize.ShloMosaic.Lib.Pipeline.ValueKit.Tiles

@[expose] public section

set_option maxRecDepth 16384

noncomputable section

namespace Cert.KernelIdeal.Greedy

open Idealize.ShloMosaic Idealize.ShloMosaic.TcCoe
open Idealize.SL Idealize.SL.Sem
open Idealize.ShloMosaic.Pipeline (Dat Cfg Window)
open Cert.KernelIdeal.Gen

/-- The launched body stores the rows `rowsOf` at its one point. -/
theorem stores_rows : Stores (F := Ideal) (fun _ => rowsOf) := fun t => kernel_stores _ _ _ _ _ _ _ _ _ _ _ _ _ _

variable (m : (ℓ : Loc nD τ sig) → Buf (Elt Ideal) ℓ) (ρ : Dev nD → PrngReg)
variable (g : Fin cfg0.N → Rows Ideal)

/-- The one grid point. -/
def pt : Fin cfg0.N := ⟨0, by decide⟩

/-- The box array after the run is what the body left. -/
theorem final4 (c : Dev nD) : (dats m g 0 c).arrAt (4 : Fin 7) cfg0.N = (dats m g 0 c).after (4 : Fin 7) pt := by
  have ho : ((cfg0.win (4 : Fin 7)).blk pt).view.read (Elt Ideal) ((dats m g 0 c).arrAt (4 : Fin 7) cfg0.N)
      = (dats m g 0 c).flushed (4 : Fin 7) pt := by
    rw [show cfg0.N = (pt : Fin cfg0.N).val + 1 from rfl, (dats m g 0 c).arrAt_succ (4 : Fin 7) pt, if_pos (flush0_4 pt)]
    exact View.read_write_univ _ _
  have hz : (fun a => (win0_4.index pt) a * main_v18_0.ty.shape.size a) = fun _ => 0 := funext fun a => by fin_cases a <;> decide
  have hr := fun f => Memref.read_access_unit_zero (Elt Ideal) main_v18_0 hz (fun a => by fin_cases a <;> decide) f
  rw [hr] at ho
  rw [ho]

/-- The score array after the run is what the body left. -/
theorem final5 (c : Dev nD) : (dats m g 0 c).arrAt (5 : Fin 7) cfg0.N = (dats m g 0 c).after (5 : Fin 7) pt := by
  have ho : ((cfg0.win (5 : Fin 7)).blk pt).view.read (Elt Ideal) ((dats m g 0 c).arrAt (5 : Fin 7) cfg0.N)
      = (dats m g 0 c).flushed (5 : Fin 7) pt := by
    rw [show cfg0.N = (pt : Fin cfg0.N).val + 1 from rfl, (dats m g 0 c).arrAt_succ (5 : Fin 7) pt, if_pos (flush0_5 pt)]
    exact View.read_write_univ _ _
  have hz : (fun a => (win0_5.index pt) a * main_v18_1.ty.shape.size a) = fun _ => 0 := funext fun a => by fin_cases a <;> decide
  have hr := fun f => Memref.read_access_unit_zero (Elt Ideal) main_v18_1 hz (fun a => by fin_cases a <;> decide) f
  rw [hr] at ho
  rw [ho]

/-- The keep array after the run is what the body left. -/
theorem final6 (c : Dev nD) : (dats m g 0 c).arrAt (6 : Fin 7) cfg0.N = (dats m g 0 c).after (6 : Fin 7) pt := by
  have ho : ((cfg0.win (6 : Fin 7)).blk pt).view.read (Elt Ideal) ((dats m g 0 c).arrAt (6 : Fin 7) cfg0.N)
      = (dats m g 0 c).flushed (6 : Fin 7) pt := by
    rw [show cfg0.N = (pt : Fin cfg0.N).val + 1 from rfl, (dats m g 0 c).arrAt_succ (6 : Fin 7) pt, if_pos (flush0_6 pt)]
    exact View.read_write_univ _ _
  have hz : (fun a => (win0_6.index pt) a * main_v18_2.ty.shape.size a) = fun _ => 0 := funext fun a => by fin_cases a <;> decide
  have hr := fun f => Memref.read_access_unit_zero (Elt Ideal) main_v18_2 hz (fun a => by fin_cases a <;> decide) f
  rw [hr] at ho
  rw [ho]

/-- The score window's block is its whole array. -/
theorem iblk0 (c : Dev nD) : iblk m c 0 pt = V m c main_v14 := by
  have hz : (fun a => (win0_0.index pt) a * main_v14.ty.shape.size a) = fun _ => 0 := funext fun a => by fin_cases a <;> decide
  have hr := fun f => Memref.read_access_unit_zero (Elt Ideal) main_v14 hz (fun a => by fin_cases a <;> decide) f
  unfold iblk
  rw [hr]

/-- The left end window's block is its whole array. -/
theorem iblk1 (c : Dev nD) : iblk m c 1 pt = V m c main_v15 := by
  have hz : (fun a => (win0_1.index pt) a * main_v15.ty.shape.size a) = fun _ => 0 := funext fun a => by fin_cases a <;> decide
  have hr := fun f => Memref.read_access_unit_zero (Elt Ideal) main_v15 hz (fun a => by fin_cases a <;> decide) f
  unfold iblk
  rw [hr]

/-- The right end window's block is its whole array. -/
theorem iblk2 (c : Dev nD) : iblk m c 2 pt = V m c main_v16 := by
  have hz : (fun a => (win0_2.index pt) a * main_v16.ty.shape.size a) = fun _ => 0 := funext fun a => by fin_cases a <;> decide
  have hr := fun f => Memref.read_access_unit_zero (Elt Ideal) main_v16 hz (fun a => by fin_cases a <;> decide) f
  unfold iblk
  rw [hr]

/-- The batch window's block is its whole array. -/
theorem iblk3 (c : Dev nD) : iblk m c 3 pt = V m c main_v17 := by
  have hz : (fun a => (win0_3.index pt) a * main_v17.ty.shape.size a) = fun _ => 0 := funext fun a => by fin_cases a <;> decide
  have hr := fun f => Memref.read_access_unit_zero (Elt Ideal) main_v17 hz (fun a => by fin_cases a <;> decide) f
  unfold iblk
  rw [hr]

/-- A row buffer after its one whole store holds what was stored. -/
theorem outRow_eq (y : Vec Ideal S1x2048 .f32) : outRow y = y :=
  View.canon_unit_zero (funext fun a => by fin_cases a <;> rfl) _ _

/-- The lanes the kernel works on. -/
def kl (c : Dev nD) : Lanes := lanes (V m c main_v14) (V m c main_v15) (V m c main_v16) (V m c main_v17)

/-- The box buffer's first row. -/
theorem outBox_zero (y z : Vec Ideal S1x2048 .f32) (j : Fin 2048) : outBox y z (ix2 0 j) = y (ix2 0 j) := by
  unfold outBox
  refine View.canon_eq_of_allAt _ _ _ (cover_box y z _) (View.allAt_cons_unit _ _ _ _ _ ?_ (View.allAt_cons_unit _ _ _ _ _ ?_ (View.allAt_nil _ _)))
  · intro x hx
    have h0 := hx 0
    simp [ix2] at h0
    omega
  · intro x hx
    congr 1
    funext a
    apply Fin.ext
    have h := hx a
    fin_cases a
    · have : (x 0).val < 1 := (x 0).isLt
      show (x 0).val = 0
      omega
    · show (x 1).val = j.val
      have h1 : j.val = 0 + (x 1).val := h
      omega

/-- The box buffer's second row. -/
theorem outBox_one (y z : Vec Ideal S1x2048 .f32) (j : Fin 2048) : outBox y z (ix2 1 j) = z (ix2 0 j) := by
  unfold outBox
  refine View.canon_eq_of_allAt _ _ _ (cover_box y z _) (View.allAt_cons_unit _ _ _ _ _ ?_ (View.allAt_cons_unit _ _ _ _ _ ?_ (View.allAt_nil _ _)))
  · intro x hx
    congr 1
    funext a
    apply Fin.ext
    have h := hx a
    fin_cases a
    · have : (x 0).val < 1 := (x 0).isLt
      show (x 0).val = 0
      omega
    · show (x 1).val = j.val
      have h1 : j.val = 0 + (x 1).val := h
      omega
  · intro x hx
    have h0 : 1 = 0 + (x 0).val := hx 0
    have : (x 0).val < 1 := (x 0).isLt
    omega

/-- What the kernel's last host operations find: the launch's arrays over the buffers as they were. -/
def atTail (c : Dev nD) : Valuation τ sig (Elt Ideal) :=
  Pipeline.withArrays spec0 c (V0 m c) fun w => (dats m (fun _ => rowsOf) 0 c).arrAt w cfg0.N

/-- The box array the last host operations find. -/
theorem atTail_box (c : Dev nD) : atTail m c main_v18_0 =
    outBox (rowsOf (V m c main_v14) (V m c main_v15) (V m c main_v16) (V m c main_v17) 2)
      (rowsOf (V m c main_v14) (V m c main_v15) (V m c main_v16) (V m c main_v17) 3) := by
  have h := Pipeline.withArrays_arr spec0 launch0.win.arr_inj c (V0 m c)
    (fun w => (dats m (fun _ => rowsOf) 0 c).arrAt w cfg0.N) (4 : Fin 7)
  refine (show atTail m c main_v18_0 = _ from h).trans ?_
  rw [final4, after4, iblk0, iblk1, iblk2, iblk3]

/-- The score array the last host operations find. -/
theorem atTail_score (c : Dev nD) : atTail m c main_v18_1 =
    rowsOf (V m c main_v14) (V m c main_v15) (V m c main_v16) (V m c main_v17) 0 := by
  have h := Pipeline.withArrays_arr spec0 launch0.win.arr_inj c (V0 m c)
    (fun w => (dats m (fun _ => rowsOf) 0 c).arrAt w cfg0.N) (5 : Fin 7)
  refine (show atTail m c main_v18_1 = _ from h).trans ?_
  rw [final5, after5, outRow_eq, iblk0, iblk1, iblk2, iblk3]

/-- The keep array the last host operations find. -/
theorem atTail_keep (c : Dev nD) : atTail m c main_v18_2 =
    rowsOf (V m c main_v14) (V m c main_v15) (V m c main_v16) (V m c main_v17) 1 := by
  have h := Pipeline.withArrays_arr spec0 launch0.win.arr_inj c (V0 m c)
    (fun w => (dats m (fun _ => rowsOf) 0 c).arrAt w cfg0.N) (6 : Fin 7)
  refine (show atTail m c main_v18_2 = _ from h).trans ?_
  rw [final6, after6, outRow_eq, iblk0, iblk1, iblk2, iblk3]

/-- The value of the box result. -/
theorem tail_v19 (c : Dev nD) : StableHlo.after (hostOps1 (F := Ideal)) (atTail m c) main_v19 =
    transpose S2048x2 [1, 0] (atTail m c main_v18_0) transposes_S2x2048_S2048x2_1_0 := by
  after_results

/-- The value of the score result. -/
theorem tail_v20 (c : Dev nD) : StableHlo.after (hostOps1 (F := Ideal)) (atTail m c) main_v20 =
    shapeCast S2048 (atTail m c main_v18_1) shapeCasts_S1x2048_S2048 := by
  after_results
  rfl

/-- The value of the keep result. -/
theorem tail_v23 (c : Dev nD) : StableHlo.after (hostOps1 (F := Ideal)) (atTail m c) main_v23 =
    cmpf .une (shapeCast S2048 (atTail m c main_v18_2) shapeCasts_S1x2048_S2048)
      (broadcastInDim S2048 ![] bcast_S_S2048 (constant (F := Ideal) S_ .f32 0x00000000#32)) := by
  after_results
  rfl

end Cert.KernelIdeal.Greedy
-- ==== Proof.KerPrefix.lean ====
module

public import proofs.«01_k».proof.Proof.Host
public import proofs.«01_k».proof.Proof.IdealValue

@[expose] public section

set_option maxRecDepth 16384

noncomputable section

namespace Cert.KernelIdeal.Greedy

open Idealize.ShloMosaic Idealize.ShloMosaic.TcCoe Idealize.ShloMosaic.Tactic
open Idealize.SL.Sem
open Idealize.ShloMosaic.StableHlo Cert.KernelIdeal.Gen
open Cert.ReferenceIdeal.Greedy (starts inside flat top posOf posOf_spec at1 take_vec endOf cand lane)

variable (W : Valuation τ sig (Elt Ideal))

/-- The end `k` of every interval, as the kernel lays them out. -/
theorem end_vec (x1 : Vec Ideal S16x2x64x64 .f32) (off : Fin 3 → ℕ) (k : Fin 2) (h0 : off 0 = 0) (h1 : off 1 = k.val) (h2 : off 2 = 0)
    (hs : S16x2x4096.Slices off S16x1x4096) (p : Fin 65536) :
    shapeCast S65536 (shapeCast S16x4096 (extractStridedSlice S16x1x4096 off (shapeCast S16x2x4096 x1 (by decide)) hs) (by decide)) (by decide)
      (ix1 p) = endOf x1 k p := by
  rw [shapeCast_apply _ _ (ix1 p) (ix2 (n0 := 16) (n1 := 4096) ⟨p.val / 4096, by omega⟩ ⟨p.val % 4096, by omega⟩)
    (by rw [Shape.rowMajor_val_two, Shape.rowMajor_val_one]; simp; omega)]
  rw [shapeCast_apply _ _ _ (ix3 (n0 := 16) (n1 := 1) (n2 := 4096) ⟨p.val / 4096, by omega⟩ 0 ⟨p.val % 4096, by omega⟩)
    (by rw [Shape.rowMajor_val_two, Shape.rowMajor_val_three]; simp)]
  rw [extractStridedSlice_apply off _ hs _ (ix3 (n0 := 16) (n1 := 2) (n2 := 4096) ⟨p.val / 4096, by omega⟩ k ⟨p.val % 4096, by omega⟩)
    (by intro a; fin_cases a <;> simp [h0, h1, h2])]
  rw [shapeCast_apply _ _ _ (ix4 (n0 := 16) (n1 := 2) (n2 := 64) (n3 := 64) ⟨p.val / 4096, by omega⟩ k ⟨p.val % 4096 / 64, by omega⟩ ⟨p.val % 64, by omega⟩)
    (by rw [Shape.rowMajor_val_four, Shape.rowMajor_val_three]; simp; omega)]
  rfl

set_option maxHeartbeats 2000000 in
/-- The first take. -/
theorem take_left : after (hostOps0_3 (F := Ideal)) W main_v11 =
    select (inside (W main_indices)) (Host.gather gather_S65536_S2048x1_S2048_n_0_n_n_0_1_1 (W main_v7) (starts (W main_indices)))
      (broadcastInDim S2048 ![] bcast_S_S2048 (constant (F := Ideal) S_ .f32 0x7FC00000#32)) := by
  after_results
  rfl

set_option maxHeartbeats 2000000 in
/-- The second take. -/
theorem take_right : after (hostOps0_4 (F := Ideal)) W main_v12 =
    select (inside (W main_indices)) (Host.gather gather_S65536_S2048x1_S2048_n_0_n_n_0_1_1 (W main_v10) (starts (W main_indices)))
      (broadcastInDim S2048 ![] bcast_S_S2048 (constant (F := Ideal) S_ .f32 0x7FC00000#32)) := by
  after_results
  rfl

set_option maxHeartbeats 2000000 in
theorem keep3_values : after (hostOps0_3 (F := Ideal)) W main_values = W main_values := by after_results

set_option maxHeartbeats 2000000 in
theorem keep3_indices : after (hostOps0_3 (F := Ideal)) W main_indices = W main_indices := by after_results

set_option maxHeartbeats 2000000 in
theorem keep3_v10 : after (hostOps0_3 (F := Ideal)) W main_v10 = W main_v10 := by after_results

set_option maxHeartbeats 2000000 in
theorem keep4_values : after (hostOps0_4 (F := Ideal)) W main_values = W main_values := by after_results

set_option maxHeartbeats 2000000 in
theorem keep4_indices : after (hostOps0_4 (F := Ideal)) W main_indices = W main_indices := by after_results

set_option maxHeartbeats 2000000 in
theorem keep4_v11 : after (hostOps0_4 (F := Ideal)) W main_v11 = W main_v11 := by after_results

set_option maxHeartbeats 2000000 in
theorem keep5_values : after (hostOps0_5 (F := Ideal)) W main_values = W main_values := by after_results

set_option maxHeartbeats 2000000 in
theorem keep5_indices : after (hostOps0_5 (F := Ideal)) W main_indices = W main_indices := by after_results

set_option maxHeartbeats 2000000 in
theorem keep5_v11 : after (hostOps0_5 (F := Ideal)) W main_v11 = W main_v11 := by after_results

set_option maxHeartbeats 2000000 in
theorem keep5_v12 : after (hostOps0_5 (F := Ideal)) W main_v12 = W main_v12 := by after_results

set_option maxHeartbeats 2000000 in
theorem keep6_values : after (hostOps0_6 (F := Ideal)) W main_values = W main_values := by after_results

set_option maxHeartbeats 2000000 in
theorem keep6_v11 : after (hostOps0_6 (F := Ideal)) W main_v11 = W main_v11 := by after_results

set_option maxHeartbeats 2000000 in
theorem keep6_v12 : after (hostOps0_6 (F := Ideal)) W main_v12 = W main_v12 := by after_results

set_option maxHeartbeats 2000000 in
theorem row_v14 : after (hostOps0_7 (F := Ideal)) W main_v14 = shapeCast S1x2048 (W main_values) (by decide) := by
  after_results
  rfl

set_option maxHeartbeats 2000000 in
theorem row_v15 : after (hostOps0_7 (F := Ideal)) W main_v15 = shapeCast S1x2048 (W main_v11) (by decide) := by
  after_results
  rfl

set_option maxHeartbeats 2000000 in
theorem row_v16 : after (hostOps0_7 (F := Ideal)) W main_v16 = shapeCast S1x2048 (W main_v12) (by decide) := by
  after_results
  rfl

set_option maxHeartbeats 2000000 in
theorem row_v17 : after (hostOps0_7 (F := Ideal)) W main_v17 = shapeCast S1x2048 (W main_v13) (by decide) := by
  after_results
  rfl

set_option maxHeartbeats 2000000 in
theorem const_c : after (hostOps0_5 (F := Ideal)) W main_c = constantI S_ 32 4096 := by
  after_results
  rfl

/-- The floor division, as the program spells it. -/
def floorDiv (x : IVec S2048 32) (c : IVec S_ 32) : IVec S2048 32 :=
  select (andi (cmpi .ne (signi x) (broadcastInDim S2048 ![] bcast_S_S2048 (signi c)))
      (cmpi .ne (Host.remsi x (broadcastInDim S2048 ![] bcast_S_S2048 c)) (broadcastInDim S2048 ![] bcast_S_S2048 (constantI S_ 32 0#32))))
    (subi (Host.divsi x (broadcastInDim S2048 ![] bcast_S_S2048 c)) (broadcastInDim S2048 ![] bcast_S_S2048 (constantI S_ 32 1#32)))
    (Host.divsi x (broadcastInDim S2048 ![] bcast_S_S2048 c))

set_option maxHeartbeats 2000000 in
/-- The floor division of the positions. -/
theorem batch_of : after (hostOps0_6 (F := Ideal)) W main_v13 = floorDiv (W main_indices) (W main_c) := by
  after_results
  rfl

/-- The quotient of a position by 4096. -/
theorem floorDiv_at (x : IVec S2048 32) (i : S2048.Idx) (p : ℕ) (hp : p < 65536) (hx : x i = BitVec.ofNat 32 p) :
    floorDiv x (constantI S_ 32 4096) i = BitVec.ofNat 32 (p / 4096) := by
  refine Eq.trans ?_ (Cert.ReferenceIdeal.Greedy.floor_div p hp)
  rw [← hx]
  rfl

/-- The first three stages: the candidates and the ends. -/
abbrev head3 : Valuation τ sig (Elt Ideal) := after hostOps0_2 (after hostOps0_1 (after hostOps0 W))

set_option maxHeartbeats 2000000 in
theorem head_values : head3 W main_values = (top (W main_arg0)).1 := by
  after_results
  rfl

set_option maxHeartbeats 2000000 in
theorem head_indices : head3 W main_indices = (top (W main_arg0)).2 := by
  after_results
  rfl

set_option maxHeartbeats 2000000 in
theorem head_left : head3 W main_v7 = shapeCast S65536 (shapeCast S16x4096 (extractStridedSlice S16x1x4096 ![0, 0, 0]
    (shapeCast S16x2x4096 (W main_arg1) (by decide)) slices_S16x2x4096_S16x1x4096_0_0_0) (by decide)) (by decide) := by
  after_results
  rfl

set_option maxHeartbeats 2000000 in
theorem head_right : head3 W main_v10 = shapeCast S65536 (shapeCast S16x4096 (extractStridedSlice S16x1x4096 ![0, 1, 0]
    (shapeCast S16x2x4096 (W main_arg1) (by decide)) slices_S16x2x4096_S16x1x4096_0_1_0) (by decide)) (by decide) := by
  after_results
  rfl

/-- The valuation before the last stage. -/
abbrev head7 : Valuation τ sig (Elt Ideal) :=
  after hostOps0_6 (after hostOps0_5 (after hostOps0_4 (after hostOps0_3 (head3 W))))

theorem at_values : head7 W main_values = (top (W main_arg0)).1 := by
  unfold head7
  rw [keep6_values, keep5_values, keep4_values, keep3_values, head_values]

theorem at_v11 (j : Fin 2048) : head7 W main_v11 (at1 j) = endOf (W main_arg1) 0 (posOf (W main_arg0) j) := by
  unfold head7
  rw [keep6_v11, keep5_v11, keep4_v11, take_left, head_indices, head_left]
  rw [take_vec _ (posOf (W main_arg0)) (posOf_spec _) _ rfl rfl rfl rfl]
  exact end_vec _ _ 0 rfl rfl rfl _ _

theorem at_v12 (j : Fin 2048) : head7 W main_v12 (at1 j) = endOf (W main_arg1) 1 (posOf (W main_arg0) j) := by
  unfold head7
  rw [keep6_v12, keep5_v12, take_right, keep3_indices, keep3_v10, head_indices, head_right]
  rw [take_vec _ (posOf (W main_arg0)) (posOf_spec _) _ rfl rfl rfl rfl]
  exact end_vec _ _ 1 rfl rfl rfl _ _

theorem at_v13 (j : Fin 2048) : head7 W main_v13 (at1 j) = BitVec.ofNat 32 ((posOf (W main_arg0) j).val / 4096) := by
  unfold head7
  rw [batch_of, const_c, keep5_indices, keep4_indices, keep3_indices, head_indices]
  exact floorDiv_at _ _ _ (posOf (W main_arg0) j).isLt (posOf_spec _ _)

/-- A row read at its lane. -/
theorem ofRow_cast {α : Type} (x : S2048.Idx → α) (j : ℕ) : ofRow (shapeCast S1x2048 x (by decide)) j = x (at1 (lane j)) := by
  refine shapeCast_apply _ _ _ _ ?_
  rw [Shape.rowMajor_val_two, Shape.rowMajor_val_one]
  simp [lane, at1]

variable (m : (ℓ : Loc nD τ sig) → Buf (Elt Ideal) ℓ) (c : Dev nD)

theorem V0_eq : V0 m c = after hostOps0_7 (head7 fun b => m (c, b)) := by
  simp only [V0, head7, head3, List.flatten_cons, List.flatten_nil, List.append_nil, StableHlo.after_append]

theorem lanes_ext {a a' b b' : ℕ → EReal} {u u' : ℕ → BitVec 32} {s s' : ℕ → EReal} (ha : ∀ j, a j = a' j) (hb : ∀ j, b j = b' j)
    (hu : ∀ j, u j = u' j) (hs : ∀ j, s j = s' j) : Lanes.mk a b u s = Lanes.mk a' b' u' s' := by
  rw [funext ha, funext hb, funext hu, funext hs]

theorem kl_values (j : ℕ) : ofRow (V0 m c (Proc.devRef .tc main_v14)) j = (top (m (c, Proc.devRef .tc main_arg0))).1 (at1 (lane j)) := by
  rw [V0_eq, row_v14, ofRow_cast, at_values]

theorem kl_left (j : ℕ) : ofRow (V0 m c (Proc.devRef .tc main_v15)) j
    = endOf (m (c, Proc.devRef .tc main_arg1)) 0 (posOf (m (c, Proc.devRef .tc main_arg0)) (lane j)) := by
  rw [V0_eq, row_v15, ofRow_cast, at_v11]

theorem kl_right (j : ℕ) : ofRow (V0 m c (Proc.devRef .tc main_v16)) j
    = endOf (m (c, Proc.devRef .tc main_arg1)) 1 (posOf (m (c, Proc.devRef .tc main_arg0)) (lane j)) := by
  rw [V0_eq, row_v16, ofRow_cast, at_v12]

theorem kl_batch (j : ℕ) : ofRow (V0 m c (Proc.devRef .tc main_v17)) j
    = BitVec.ofNat 32 ((posOf (m (c, Proc.devRef .tc main_arg0)) (lane j)).val / 4096) := by
  rw [V0_eq, row_v17, ofRow_cast, at_v13]

/-- The lanes the kernel body works on are the candidates of the two arguments. -/
theorem kl_eq : kl m c = cand (m (c, Proc.devRef .tc main_arg0)) (m (c, Proc.devRef .tc main_arg1)) :=
  lanes_ext (kl_left m c) (kl_right m c) (kl_batch m c) (kl_values m c)

end Cert.KernelIdeal.Greedy
-- ==== Proof.Results.lean ====
module

public import proofs.«01_k».proof.Proof.RefCand
public import proofs.«01_k».proof.Proof.KerPrefix

@[expose] public section

set_option maxRecDepth 16384

noncomputable section

namespace Cert.Results

open Idealize.ShloMosaic Idealize.ShloMosaic.TcCoe Idealize.ShloMosaic.Tactic
open Idealize.SL.Sem
open Idealize.ShloMosaic.StableHlo
open Cert.KernelIdeal.Greedy (Lanes)
open Cert.ReferenceIdeal (S2048 S2048x2)
open Cert.ReferenceIdeal.Greedy (at1)

variable (d : Lanes)

/-- The boxes: the ends of the lanes kept, zero elsewhere. -/
def box : Vec Ideal S2048x2 .f32 := fun i =>
  FloatOps.mulf (F := Ideal) (φ := .f32) (if (i 1).val = 0 then d.lo (i 0).val else d.hi (i 0).val) (d.K 2048 (i 0).val)
/-- The scores of the lanes kept, zero elsewhere. -/
def score : Vec Ideal S2048 .f32 := fun i => FloatOps.mulf (F := Ideal) (φ := .f32) (d.SC (i 0).val) (d.K 2048 (i 0).val)
open Classical in
/-- The lanes kept. -/
def keep : IVec S2048 1 := fun i => if d.kp 2048 (i 0).val then 1#1 else 0#1

/-- A table of pairs given by its two columns. -/
theorem ext_pairs {α : Type} (x y : S2048x2.Idx → α) (h0 : ∀ j : Fin 2048, x (ix2 j 0) = y (ix2 j 0)) (h1 : ∀ j : Fin 2048, x (ix2 j 1) = y (ix2 j 1)) : x = y := by
  funext i
  obtain ⟨j, k, rfl⟩ : ∃ (j : Fin 2048) (k : Fin 2), i = ix2 j k := ⟨i 0, i 1, eq_ix2 i⟩
  fin_cases k
  · exact h0 j
  · exact h1 j

/-- A vector given by its elements. -/
theorem ext_vec {α : Type} (x y : S2048.Idx → α) (h : ∀ j : Fin 2048, x (at1 j) = y (at1 j)) : x = y := by
  funext i
  obtain ⟨j, rfl⟩ : ∃ j : Fin 2048, i = at1 j := ⟨i 0, eq_ix1 i⟩
  exact h j

/-- Whether a lane's number differs from zero. -/
theorem une_keep (j : ℕ) : FloatOps.cmpf (F := Ideal) (φ := .f32) .une (d.K 2048 j) (FloatOps.ofBits .f32 0x00000000#32) = 1#1 ↔ d.kp 2048 j := by
  classical
  have hz : (FloatOps.ofBits (F := Ideal) .f32 0x00000000#32 : EReal) = 0 := Lanes.zero_eq
  show BitVec.ofBool (decide (d.K 2048 j ≠ (FloatOps.ofBits (F := Ideal) .f32 0x00000000#32 : EReal))) = 1#1 ↔ _
  rw [hz]
  unfold Lanes.K
  by_cases h : d.kp 2048 j
  · simp [h, Lanes.one_eq]
  · simp [h, Lanes.zero_eq]

/-- A bit as a number is the lane's number. -/
theorem bit_keep (b : BitVec 1) (j : ℕ) (h : b = 1#1 ↔ d.kp 2048 j) : FloatOps.uitofp (F := Ideal) .f32 b = d.K 2048 j := by
  classical
  show (((b.toNat : ℝ)) : EReal) = _
  unfold Lanes.K
  by_cases hk : d.kp 2048 j
  · rw [if_pos hk, h.mpr hk, Lanes.one_eq]
    norm_num
  · have hb : b = 0#1 := by
      have : b ≠ 1#1 := fun hb => hk (h.mp hb)
      revert this; clear h; revert b; decide
    rw [if_neg hk, hb, Lanes.zero_eq]
    norm_num

/-- A bit equals the keep bit when it is set exactly on the lanes kept. -/
theorem bit_eq (b : BitVec 1) (j : ℕ) (h : b = 1#1 ↔ d.kp 2048 j) : b = @ite _ (d.kp 2048 j) (Classical.dec _) 1#1 0#1 := by
  by_cases hk : d.kp 2048 j
  · rw [if_pos hk, h.mpr hk]
  · rw [if_neg hk]
    have : b ≠ 1#1 := fun hb => hk (h.mp hb)
    revert this; clear h; revert b; decide

/-- Scaling by 64 and back changes nothing. -/
theorem scale_back (x : EReal) : Ideal.div (FloatOps.mulf (F := Ideal) (φ := .f32) x (FloatOps.ofBits .f32 0x42800000#32)) (FloatOps.ofBits (F := Ideal) .f32 0x42800000#32) = x := by
  have h64 : (FloatOps.ofBits (F := Ideal) .f32 0x42800000#32 : EReal) = ((64 : ℝ) : EReal) := by
    show Ideal.ofBits .f32 0x42800000#32 = _
    simp [Ideal.ofBits, Ideal.ieee, -EReal.coe_mul]
    try norm_num
  show Ideal.div (x * (FloatOps.ofBits (F := Ideal) .f32 0x42800000#32 : EReal)) _ = x
  rw [h64]
  unfold Ideal.div
  rw [if_neg (by exact_mod_cast (by norm_num : (64 : ℝ) ≠ 0)), ← EReal.coe_inv, mul_assoc, ← EReal.coe_mul]
  norm_num

end Cert.Results

namespace Cert.KernelIdeal.Greedy

open Idealize.ShloMosaic Idealize.ShloMosaic.TcCoe Idealize.ShloMosaic.Tactic
open Idealize.SL.Sem
open Idealize.ShloMosaic.StableHlo Cert.KernelIdeal.Gen
open Cert.ReferenceIdeal.Greedy (at1)

variable (m : (ℓ : Loc nD τ sig) → Buf (Elt Ideal) ℓ) (c : Dev nD)

theorem vw_at {α : Type} (f : ℕ → α) (j : Fin 2048) : vw 2048 0 f (ix2 0 j) = f j.val := by
  show f (0 + j.val) = _
  rw [Nat.zero_add]

/-- The kernel's boxes. -/
theorem kernel_box : StableHlo.after (hostOps1 (F := Ideal)) (atTail m c) main_v19 = Cert.Results.box (kl m c) := by
  rw [tail_v19, atTail_box]
  refine Cert.Results.ext_pairs _ _ (fun j => ?_) (fun j => ?_)
  · rw [transpose_apply _ _ _ (ix2 j 0) (ix2 0 j) (by intro a; fin_cases a <;> rfl), outBox_zero]
    show FloatOps.mulf (F := Ideal) (φ := .f32) (vw 2048 0 (kl m c).lo (ix2 0 j)) (vw 2048 0 ((kl m c).K 2048) (ix2 0 j)) = _
    rw [vw_at, vw_at]
    rfl
  · rw [transpose_apply _ _ _ (ix2 j 1) (ix2 1 j) (by intro a; fin_cases a <;> rfl), outBox_one]
    show FloatOps.mulf (F := Ideal) (φ := .f32) (vw 2048 0 (kl m c).hi (ix2 0 j)) (vw 2048 0 ((kl m c).K 2048) (ix2 0 j)) = _
    rw [vw_at, vw_at]
    rfl

theorem cast_at {α : Type} (x : S1x2048.Idx → α) (j : Fin 2048) : shapeCast S2048 x shapeCasts_S1x2048_S2048 (at1 j) = x (ix2 0 j) :=
  shapeCast_apply _ _ (at1 j) (ix2 0 j) (by rw [Shape.rowMajor_val_one, Shape.rowMajor_val_two]; simp)

/-- The kernel's scores. -/
theorem kernel_score : StableHlo.after (hostOps1 (F := Ideal)) (atTail m c) main_v20 = Cert.Results.score (kl m c) := by
  rw [tail_v20, atTail_score]
  refine Cert.Results.ext_vec _ _ fun j => ?_
  rw [cast_at]
  show FloatOps.mulf (F := Ideal) (φ := .f32) (vw 2048 0 (kl m c).SC (ix2 0 j)) (vw 2048 0 ((kl m c).K 2048) (ix2 0 j)) = _
  rw [vw_at, vw_at]
  rfl

/-- The kernel's keep bits. -/
theorem kernel_keep : StableHlo.after (hostOps1 (F := Ideal)) (atTail m c) main_v23 = Cert.Results.keep (kl m c) := by
  rw [tail_v23, atTail_keep]
  refine Cert.Results.ext_vec _ _ fun j => ?_
  show FloatOps.cmpf (F := Ideal) (φ := .f32) .une (shapeCast S2048 (vw 2048 0 ((kl m c).K 2048)) shapeCasts_S1x2048_S2048 (at1 j)) (FloatOps.ofBits .f32 0x00000000#32) = _
  rw [cast_at, vw_at]
  exact Cert.Results.bit_eq _ _ _ (Cert.Results.une_keep _ _)

/-- The kernel terminates with its results at the boxes, the scores and the keep bits of its lanes, and its arguments
    unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v19) = Cert.Results.box (kl m c)
      ∧ r.2.mem ((c.tc : Thread nD τ).loc main_v20) = Cert.Results.score (kl m c)
      ∧ r.2.mem ((c.tc : Thread nD τ).loc main_v23) = Cert.Results.keep (kl m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_, ?_, ?_⟩) (run_main m ρ stores_rows)
  · exact ((h.1 c).2 main_v19 (Pipeline.mem_restRefs_of main_v19 (by decide) (by decide))).trans (kernel_box m c)
  · exact ((h.1 c).2 main_v20 (Pipeline.mem_restRefs_of main_v20 (by decide) (by decide))).trans (kernel_score m c)
  · exact ((h.1 c).2 main_v23 (Pipeline.mem_restRefs_of main_v23 (by decide) (by decide))).trans (kernel_keep m c)
  · exact ((h.1 c).2 main_arg0 (Pipeline.mem_restRefs_of main_arg0 (by decide) (by decide))).trans (W_main_arg0 m _ c)
  · exact ((h.1 c).2 main_arg1 (Pipeline.mem_restRefs_of main_arg1 (by decide) (by decide))).trans (W_main_arg1 m _ c)

end Cert.KernelIdeal.Greedy

namespace Cert.ReferenceIdeal.Greedy

open Idealize.ShloMosaic Idealize.ShloMosaic.TcCoe Idealize.ShloMosaic.Tactic
open Idealize.SL.Sem
open Idealize.ShloMosaic.StableHlo Cert.ReferenceIdeal.Gen Cert.ReferenceIdeal.Value
open Cert.KernelIdeal.Greedy (Lanes)

section tail
variable (X : Valuation τ sig (Elt Ideal)) (d : Lanes)
set_option maxHeartbeats 2000000

theorem t_score : after (hostOps0_14 (F := Ideal)) X main_v52 = mulf (F := Ideal) (φ := .f32) (X main_values) (uitofp .f32 (X main_v50_4)) := by
  after_results

theorem t_keep : after (hostOps0_14 (F := Ideal)) X main_v50_4 = X main_v50_4 := by
  after_results

theorem t_box : after (hostOps0_14 (F := Ideal)) X main_v57 = mulf (F := Ideal) (φ := .f32)
    (Host.divf (F := Ideal) (φ := .f32) (X main_v14) (broadcastInDim S2048x2 ![] bcast_S_S2048x2 (constant (F := Ideal) S_ .f32 0x42800000#32)))
    (broadcastInDim S2048x2 ![0, 1] bcast_S2048x1_S2048x2_0_1 (broadcastInDim S2048x1 ![0] bcast_S2048_S2048x1_0 (uitofp (F := Ideal) .f32 (X main_v50_4)))) := by
  after_results

theorem spread_at {α : Type} (x : S2048.Idx → α) (j : Fin 2048) (k : Fin 2) :
    broadcastInDim S2048x2 ![0, 1] bcast_S2048x1_S2048x2_0_1 (broadcastInDim S2048x1 ![0] bcast_S2048_S2048x1_0 x) (ix2 j k) = x (at1 j) := by
  rw [broadcastInDim_apply _ _ _ (ix2 j k) (ix2 j (0 : Fin 1)) (by intro a; fin_cases a <;> rfl),
    broadcastInDim_apply _ _ _ (ix2 j (0 : Fin 1)) (at1 j) (by intro a; fin_cases a; rfl)]

variable (hk : ∀ j : Fin 2048, X main_v50_4 (at1 j) = 1#1 ↔ d.kp 2048 j.val)
include hk

/-- The last host operations' keep bits. -/
theorem tail_keep : after (hostOps0_14 (F := Ideal)) X main_v50_4 = Cert.Results.keep d := by
  rw [t_keep]
  exact Cert.Results.ext_vec _ _ fun j => Cert.Results.bit_eq _ _ _ (hk j)

/-- The last host operations' scores. -/
theorem tail_score (hs : ∀ j : Fin 2048, X main_values (at1 j) = d.SC j.val) : after (hostOps0_14 (F := Ideal)) X main_v52 = Cert.Results.score d := by
  rw [t_score]
  refine Cert.Results.ext_vec _ _ fun j => ?_
  show FloatOps.mulf (F := Ideal) (φ := .f32) (X main_values (at1 j)) (FloatOps.uitofp (F := Ideal) .f32 (X main_v50_4 (at1 j))) = _
  rw [hs, Cert.Results.bit_keep d _ _ (hk j)]
  rfl

/-- The last host operations' boxes. -/
theorem tail_box (h0 : ∀ j : Fin 2048, X main_v14 (ix2 j 0) = d.S j.val) (h1 : ∀ j : Fin 2048, X main_v14 (ix2 j 1) = d.E j.val) :
    after (hostOps0_14 (F := Ideal)) X main_v57 = Cert.Results.box d := by
  rw [t_box]
  refine Cert.Results.ext_pairs _ _ (fun j => ?_) (fun j => ?_)
  · show FloatOps.mulf (F := Ideal) (φ := .f32) (Ideal.div (X main_v14 (ix2 j 0)) (FloatOps.ofBits (F := Ideal) .f32 0x42800000#32)) (broadcastInDim S2048x2 ![0, 1] bcast_S2048x1_S2048x2_0_1 (broadcastInDim S2048x1 ![0] bcast_S2048_S2048x1_0 (uitofp (F := Ideal) .f32 (X main_v50_4))) (ix2 j 0)) = _
    rw [spread_at, h0]
    show FloatOps.mulf (F := Ideal) (φ := .f32) (Ideal.div (FloatOps.mulf (F := Ideal) (φ := .f32) (d.lo j.val) (FloatOps.ofBits .f32 0x42800000#32)) _) (FloatOps.uitofp (F := Ideal) .f32 (X main_v50_4 (at1 j))) = _
    rw [Cert.Results.scale_back, Cert.Results.bit_keep d _ _ (hk j)]
    rfl
  · show FloatOps.mulf (F := Ideal) (φ := .f32) (Ideal.div (X main_v14 (ix2 j 1)) (FloatOps.ofBits (F := Ideal) .f32 0x42800000#32)) (broadcastInDim S2048x2 ![0, 1] bcast_S2048x1_S2048x2_0_1 (broadcastInDim S2048x1 ![0] bcast_S2048_S2048x1_0 (uitofp (F := Ideal) .f32 (X main_v50_4))) (ix2 j 1)) = _
    rw [spread_at, h1]
    show FloatOps.mulf (F := Ideal) (φ := .f32) (Ideal.div (FloatOps.mulf (F := Ideal) (φ := .f32) (d.hi j.val) (FloatOps.ofBits .f32 0x42800000#32)) _) (FloatOps.uitofp (F := Ideal) .f32 (X main_v50_4 (at1 j))) = _
    rw [Cert.Results.scale_back, Cert.Results.bit_keep d _ _ (hk j)]
    rfl

end tail

variable (m : (ℓ : Loc nD τ sig) → Buf (Elt Ideal) ℓ) (c : Dev nD)

/-- The candidates of the reference's two arguments. -/
abbrev rl : Lanes := cand (m (c, Proc.devRef .tc main_arg0)) (m (c, Proc.devRef .tc main_arg1))

theorem entry_eq : entryContents (preI (F := Ideal)) m c = table (ranked fun b => m (c, b)) := rfl

/-- What the last host operations find. -/
abbrev atLast : Valuation τ sig (Elt Ideal) := after (condOps (F := Ideal)) (atTrip (condOps (F := Ideal)) bodyI (entryContents (preI (F := Ideal)) m) 2048 c)

theorem last_keep (j : Fin 2048) : atLast m c main_v50_4 (at1 j) = 1#1 ↔ (rl m c).kp 2048 j.val := by
  have h1 : atLast m c main_v50_4 = (STEP^[2048] (entryContents (preI (F := Ideal)) m c)) main_v50_4 :=
    (cond_keeps _ main_v50_4 (by decide)).trans (atK_agree m c 2048 main_v50_4 (by decide))
  rw [h1]
  exact (carried_iterate (rl m c) _ (carried_table _ _ (ready fun b => m (c, b))) 2048 le_rfl).kept j

theorem last_values (j : Fin 2048) : atLast m c main_values (at1 j) = (rl m c).SC j.val := by
  unfold atLast
  rw [after_of_writes_sub _ _ condOps_writes (by decide), trips_keep m main_values (by decide) (by decide) (by decide) (by decide), entry_eq, table_values]
  exact (ready fun b => m (c, b)).score j

theorem last_ends : atLast m c main_v14 = ranked (fun b => m (c, b)) main_v14 := by
  unfold atLast
  rw [after_of_writes_sub _ _ condOps_writes (by decide), trips_keep m main_v14 (by decide) (by decide) (by decide) (by decide), entry_eq, table_ends]

/-- The reference's boxes. -/
theorem ref_box : finalContents (condOps (F := Ideal)) preI bodyI postI 2048 m c (Proc.devRef .tc main_v57) = Cert.Results.box (rl m c) := by
  rw [final_eq]
  refine tail_box _ _ (last_keep m c) (fun j => ?_) (fun j => ?_)
  · rw [show after (condOps (F := Ideal)) (atTrip (condOps (F := Ideal)) bodyI (entryContents (preI (F := Ideal)) m) 2048 c) main_v14 = _ from last_ends m c]
    exact (ready fun b => m (c, b)).start j
  · rw [show after (condOps (F := Ideal)) (atTrip (condOps (F := Ideal)) bodyI (entryContents (preI (F := Ideal)) m) 2048 c) main_v14 = _ from last_ends m c]
    exact (ready fun b => m (c, b)).stop j

/-- The reference's scores. -/
theorem ref_score : finalContents (condOps (F := Ideal)) preI bodyI postI 2048 m c (Proc.devRef .tc main_v52) = Cert.Results.score (rl m c) := by
  rw [final_eq]
  exact tail_score _ _ (last_keep m c) (last_values m c)

/-- The reference's keep bits. -/
theorem ref_keep : finalContents (condOps (F := Ideal)) preI bodyI postI 2048 m c (Proc.devRef .tc main_v50_4) = Cert.Results.keep (rl m c) := by
  rw [final_eq]
  exact tail_keep _ _ (last_keep m c)

/-- The reference terminates with its results at the boxes, the scores and the keep bits of its candidates, and its
    arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v57) = Cert.Results.box (rl m c)
      ∧ r.2.mem ((c.tc : Thread nD τ).loc main_v52) = Cert.Results.score (rl m c)
      ∧ r.2.mem ((c.tc : Thread nD τ).loc main_v50_4) = Cert.Results.keep (rl m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono (fun r h c => ⟨?_, ?_, ?_, ?_, ?_⟩) (run_fold m ρ)
  · exact (h c main_v57 (by decide)).trans (ref_box m c)
  · exact (h c main_v52 (by decide)).trans (ref_score m c)
  · exact (h c main_v50_4 (by decide)).trans (ref_keep m c)
  · rw [h c main_arg0 (by decide)]
    exact final_keep m main_arg0 (by decide) (by decide) (by decide) (by decide) (by decide) (entry_arg0 m) c
  · rw [h c main_arg1 (by decide)]
    exact final_keep m main_arg1 (by decide) (by decide) (by decide) (by decide) (by decide) (entry_arg1 m) c

end Cert.ReferenceIdeal.Greedy
-- ==== Proof.lean ====
module
public import proofs.«01_k».proof.Defs
public import proofs.«01_k».proof.Proof.KernelRun
public import proofs.«01_k».proof.Proof.IdealRun
public import proofs.«01_k».proof.Proof.ReferenceFrame
public import proofs.«01_k».proof.Proof.Results
@[expose] public section
namespace Cert.Proof
open Idealize.ShloMosaic Idealize.ShloMosaic.TcCoe Idealize.SL.Sem

/-- Over the ideal floats the kernel and the reference, run on the same arguments, end with the same three results. -/
theorem same : @Cert.algebraic_KernelIdeal_ReferenceIdeal Cert.KernelIdeal.Gen.facts Cert.ReferenceIdeal.Gen.facts := by
  intro m g m' g' _ hargs
  have hl : ∀ c : Dev Cert.KernelIdeal.nD, Cert.ReferenceIdeal.Greedy.rl m' c = Cert.KernelIdeal.Greedy.kl m c := fun c => by
    rw [Cert.KernelIdeal.Greedy.kl_eq]
    exact congrArg₂ Cert.ReferenceIdeal.Greedy.cand (hargs c).1 (hargs c).2
  refine ⟨fun c => Cert.Results.box (Cert.KernelIdeal.Greedy.kl m c), fun c => Cert.Results.score (Cert.KernelIdeal.Greedy.kl m c),
    fun c => Cert.Results.keep (Cert.KernelIdeal.Greedy.kl m c), Cert.KernelIdeal.Greedy.run_value m g, ?_⟩
  refine (θ_run _ _ _).mono (fun r h c => ?_) (Cert.ReferenceIdeal.Greedy.run_value m' g')
  have h' := h c
  rw [hl c] at h'
  exact h'

/-- The certificate: each program runs and leaves its arguments as they were, the kernel read at the ideal floats is its own text, and there
    it computes what the reference computes. -/
theorem claim : Cert.Claim := ⟨Cert.Kernel.Gen.facts, Cert.KernelIdeal.Gen.facts, Cert.ReferenceIdeal.Gen.facts,
  fun m ρ _ => Cert.Kernel.Greedy.frame m ρ, fun m ρ _ => Cert.KernelIdeal.Greedy.frame m ρ,
  fun m ρ _ => Cert.ReferenceIdeal.Greedy.frame m ρ, trivial, same⟩
end Cert.Proof
end
